-- ==== Defs.lean ====
def Pre_Kernel [hPre_in_pool : Cert.Pre_in_pool.Facts] (m : (ℓ : Loc Cert.Kernel.nD Cert.Kernel.τ Cert.Kernel.sig) → Buf (Elt Bits) ℓ) : Prop :=
  ∀ c : Dev Cert.Kernel.nD,
    (Cert.Pre_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_pool : Cert.Pre_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_pool [hPre_in_pool : Cert.Pre_in_pool.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_pool.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_pool : Cert.Pre_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_pool : Cert.Pre_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_pool [hReferenceIdeal : Cert.ReferenceIdeal.Facts] [hPre_in_pool : Cert.Pre_in_pool.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_pool m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_pool : Cert.Pre_in_pool.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_pool : Cert.Pre_in_pool.Facts),
    quiescent_Kernel (hKernel := hKernel) (hPre_in_pool := hPre_in_pool)
    ∧ quiescent_KernelIdeal (hKernelIdeal := hKernelIdeal) (hPre_in_pool := hPre_in_pool)
    ∧ quiescent_ReferenceIdeal (hReferenceIdeal := hReferenceIdeal)
    ∧ quiescent_ReferenceIdeal_pre_in_pool (hReferenceIdeal := hReferenceIdeal) (hPre_in_pool := hPre_in_pool)
    ∧ preserves_Kernel_KernelIdeal
    ∧ algebraic_KernelIdeal_ReferenceIdeal (hKernelIdeal := hKernelIdeal) (hReferenceIdeal := hReferenceIdeal) (hPre_in_pool := hPre_in_pool)
-- ==== Pre_in_pool.lean ====
abbrev S16384x1024 : Shape := ⟨2, ![16384, 1024]⟩
abbrev S16384x8 : Shape := ⟨2, ![16384, 8]⟩
abbrev S65536x1024 : Shape := ⟨2, ![65536, 1024]⟩
abbrev S_ : Shape := ⟨0, ![]⟩

class Facts : Prop where
  bcast_S_S16384x8 : S_.BroadcastsInDim S16384x8 (![] : Fin 0 → Fin S16384x8.rank)
  reducesTo_S16384x8_S_d0_1 : S16384x8.ReducesTo [0, 1] S_
  h_S_ : 0 < S_.numel

variable [Facts]

def fn {F : FTy → Type} [FloatOps F] (main_arg0 : FVec F S16384x1024 .f32) (main_arg1 : IVec S16384x8 32) (main_arg2 : FVec F S16384x8 .f32) (main_arg3 : FVec F S65536x1024 .f32) : IVec S_ 1 :=
  let main_c : IVec S_ 32 := constantI S_ 32 0#32
  let main_v0 : IVec S16384x8 32 := broadcastInDim S16384x8 ![] bcast_S_S16384x8 main_c
  let main_v1 : IVec S16384x8 1 := cmpi .sge main_arg1 main_v0
  let main_c_0 : IVec S_ 32 := constantI S_ 32 65536#32
  let main_v2 : IVec S16384x8 32 := broadcastInDim S16384x8 ![] bcast_S_S16384x8 main_c_0
  let main_v3 : IVec S16384x8 1 := cmpi .slt main_arg1 main_v2
  let main_v4 : IVec S16384x8 1 := andi main_v1 main_v3
  let main_c_1 : IVec S_ 1 := constantI S_ 1 1#1
  let main_v5 : IVec S_ 1 := (fun x v => Host.reduce IntOp.andi x v reducesTo_S16384x8_S_d0_1 h_S_) main_v4 main_c_1
  main_v5
-- ==== Kernel.lean ====
abbrev S16384x1024 : Shape := ⟨2, ![16384, 1024]⟩
abbrev S16384x8 : Shape := ⟨2, ![16384, 8]⟩
abbrev S65536x1024 : Shape := ⟨2, ![65536, 1024]⟩
abbrev S131072 : Shape := ⟨1, ![131072]⟩
abbrev S2048x8x1024 : Shape := ⟨3, ![2048, 8, 1024]⟩
abbrev S65536x1x1024 : Shape := ⟨3, ![65536, 1, 1024]⟩
abbrev S1x8x1024 : Shape := ⟨3, ![1, 8, 1024]⟩
abbrev S8x8 : Shape := ⟨2, ![8, 8]⟩
abbrev S1x1x1024 : Shape := ⟨3, ![1, 1, 1024]⟩
abbrev S1 : Shape := ⟨1, ![1]⟩
abbrev S1x1024 : Shape := ⟨2, ![1, 1024]⟩
abbrev S1x1x1 : Shape := ⟨3, ![1, 1, 1]⟩
abbrev S1x1 : Shape := ⟨2, ![1, 1]⟩

abbrev nBuf : Space → Nat
  | .hbm => 8
  | .vmem => 134
  | .smem => 1
  | _ => 0

abbrev vmemTy0_0 (i : Nat) : BufTy := match i % 128 with
  | 0 => ⟨S1x8x1024, .f32⟩
  | 1 => ⟨S1x8x1024, .f32⟩
  | 2 => ⟨S8x8, .f32⟩
  | 3 => ⟨S8x8, .f32⟩
  | 4 => ⟨S1x1x1024, .f32⟩
  | 5 => ⟨S1x1x1024, .f32⟩
  | 6 => ⟨S1x1x1024, .f32⟩
  | 7 => ⟨S1x1x1024, .f32⟩
  | 8 => ⟨S1x1x1024, .f32⟩
  | 9 => ⟨S1x1x1024, .f32⟩
  | 10 => ⟨S1x1x1024, .f32⟩
  | 11 => ⟨S1x1x1024, .f32⟩
  | 12 => ⟨S1x1x1024, .f32⟩
  | 13 => ⟨S1x1x1024, .f32⟩
  | 14 => ⟨S1x1x1024, .f32⟩
  | 15 => ⟨S1x1x1024, .f32⟩
  | 16 => ⟨S1x1x1024, .f32⟩
  | 17 => ⟨S1x1x1024, .f32⟩
  | 18 => ⟨S1x1x1024, .f32⟩
  | 19 => ⟨S1x1x1024, .f32⟩
  | 20 => ⟨S1x1x1024, .f32⟩
  | 21 => ⟨S1x1x1024, .f32⟩
  | 22 => ⟨S1x1x1024, .f32⟩
  | 23 => ⟨S1x1x1024, .f32⟩
  | 24 => ⟨S1x1x1024, .f32⟩
  | 25 => ⟨S1x1x1024, .f32⟩
  | 26 => ⟨S1x1x1024, .f32⟩
  | 27 => ⟨S1x1x1024, .f32⟩
  | 28 => ⟨S1x1x1024, .f32⟩
  | 29 => ⟨S1x1x1024, .f32⟩
  | 30 => ⟨S1x1x1024, .f32⟩
  | 31 => ⟨S1x1x1024, .f32⟩
  | 32 => ⟨S1x1x1024, .f32⟩
  | 33 => ⟨S1x1x1024, .f32⟩
  | 34 => ⟨S1x1x1024, .f32⟩
  | 35 => ⟨S1x1x1024, .f32⟩
  | 36 => ⟨S1x1x1024, .f32⟩
  | 37 => ⟨S1x1x1024, .f32⟩
  | 38 => ⟨S1x1x1024, .f32⟩
  | 39 => ⟨S1x1x1024, .f32⟩
  | 40 => ⟨S1x1x1024, .f32⟩
  | 41 => ⟨S1x1x1024, .f32⟩
  | 42 => ⟨S1x1x1024, .f32⟩
  | 43 => ⟨S1x1x1024, .f32⟩
  | 44 => ⟨S1x1x1024, .f32⟩
  | 45 => ⟨S1x1x1024, .f32⟩
  | 46 => ⟨S1x1x1024, .f32⟩
  | 47 => ⟨S1x1x1024, .f32⟩
  | 48 => ⟨S1x1x1024, .f32⟩
  | 49 => ⟨S1x1x1024, .f32⟩
  | 50 => ⟨S1x1x1024, .f32⟩
  | 51 => ⟨S1x1x1024, .f32⟩
  | 52 => ⟨S1x1x1024, .f32⟩
  | 53 => ⟨S1x1x1024, .f32⟩
  | 54 => ⟨S1x1x1024, .f32⟩
  | 55 => ⟨S1x1x1024, .f32⟩
  | 56 => ⟨S1x1x1024, .f32⟩
  | 57 => ⟨S1x1x1024, .f32⟩
  | 58 => ⟨S1x1x1024, .f32⟩
  | 59 => ⟨S1x1x1024, .f32⟩
  | 60 => ⟨S1x1x1024, .f32⟩
  | 61 => ⟨S1x1x1024, .f32⟩
  | 62 => ⟨S1x1x1024, .f32⟩
  | 63 => ⟨S1x1x1024, .f32⟩
  | 64 => ⟨S1x1x1024, .f32⟩
  | 65 => ⟨S1x1x1024, .f32⟩
  | 66 => ⟨S1x1x1024, .f32⟩
  | 67 => ⟨S1x1x1024, .f32⟩
  | 68 => ⟨S1x1x1024, .f32⟩
  | 69 => ⟨S1x1x1024, .f32⟩
  | 70 => ⟨S1x1x1024, .f32⟩
  | 71 => ⟨S1x1x1024, .f32⟩
  | 72 => ⟨S1x1x1024, .f32⟩
  | 73 => ⟨S1x1x1024, .f32⟩
  | 74 => ⟨S1x1x1024, .f32⟩
  | 75 => ⟨S1x1x1024, .f32⟩
  | 76 => ⟨S1x1x1024, .f32⟩
  | 77 => ⟨S1x1x1024, .f32⟩
  | 78 => ⟨S1x1x1024, .f32⟩
  | 79 => ⟨S1x1x1024, .f32⟩
  | 80 => ⟨S1x1x1024, .f32⟩
  | 81 => ⟨S1x1x1024, .f32⟩
  | 82 => ⟨S1x1x1024, .f32⟩
  | 83 => ⟨S1x1x1024, .f32⟩
  | 84 => ⟨S1x1x1024, .f32⟩
  | 85 => ⟨S1x1x1024, .f32⟩
  | 86 => ⟨S1x1x1024, .f32⟩
  | 87 => ⟨S1x1x1024, .f32⟩
  | 88 => ⟨S1x1x1024, .f32⟩
  | 89 => ⟨S1x1x1024, .f32⟩
  | 90 => ⟨S1x1x1024, .f32⟩
  | 91 => ⟨S1x1x1024, .f32⟩
  | 92 => ⟨S1x1x1024, .f32⟩
  | 93 => ⟨S1x1x1024, .f32⟩
  | 94 => ⟨S1x1x1024, .f32⟩
  | 95 => ⟨S1x1x1024, .f32⟩
  | 96 => ⟨S1x1x1024, .f32⟩
  | 97 => ⟨S1x1x1024, .f32⟩
  | 98 => ⟨S1x1x1024, .f32⟩
  | 99 => ⟨S1x1x1024, .f32⟩
  | 100 => ⟨S1x1x1024, .f32⟩
  | 101 => ⟨S1x1x1024, .f32⟩
  | 102 => ⟨S1x1x1024, .f32⟩
  | 103 => ⟨S1x1x1024, .f32⟩
  | 104 => ⟨S1x1x1024, .f32⟩
  | 105 => ⟨S1x1x1024, .f32⟩
  | 106 => ⟨S1x1x1024, .f32⟩
  | 107 => ⟨S1x1x1024, .f32⟩
  | 108 => ⟨S1x1x1024, .f32⟩
  | 109 => ⟨S1x1x1024, .f32⟩
  | 110 => ⟨S1x1x1024, .f32⟩
  | 111 => ⟨S1x1x1024, .f32⟩
  | 112 => ⟨S1x1x1024, .f32⟩
  | 113 => ⟨S1x1x1024, .f32⟩
  | 114 => ⟨S1x1x1024, .f32⟩
  | 115 => ⟨S1x1x1024, .f32⟩
  | 116 => ⟨S1x1x1024, .f32⟩
  | 117 => ⟨S1x1x1024, .f32⟩
  | 118 => ⟨S1x1x1024, .f32⟩
  | 119 => ⟨S1x1x1024, .f32⟩
  | 120 => ⟨S1x1x1024, .f32⟩
  | 121 => ⟨S1x1x1024, .f32⟩
  | 122 => ⟨S1x1x1024, .f32⟩
  | 123 => ⟨S1x1x1024, .f32⟩
  | 124 => ⟨S1x1x1024, .f32⟩
  | 125 => ⟨S1x1x1024, .f32⟩
  | 126 => ⟨S1x1x1024, .f32⟩
  | 127 => ⟨S1x1x1024, .f32⟩
  | _ => ⟨S16384x1024, .f32⟩

abbrev vmemTy0_1 (i : Nat) : BufTy := match i % 128 with
  | 0 => ⟨S1x1x1024, .f32⟩
  | 1 => ⟨S1x1x1024, .f32⟩
  | 2 => ⟨S1x1x1024, .f32⟩
  | 3 => ⟨S1x1x1024, .f32⟩
  | 4 => ⟨S1x8x1024, .f32⟩
  | 5 => ⟨S1x8x1024, .f32⟩
  | _ => ⟨S16384x1024, .f32⟩

abbrev vmemTy (i : Nat) : BufTy := match i / 128 with
  | 0 => vmemTy0_0 i
  | 1 => vmemTy0_1 i
  | _ => ⟨S16384x1024, .f32⟩

abbrev bufTy : (tb : Table) → Fin (tcTables nBuf tb) → BufTy
  | .hbm, ⟨0, _⟩ => ⟨S16384x1024, .f32⟩
  | .hbm, ⟨1, _⟩ => ⟨S16384x8, .i32⟩
  | .hbm, ⟨2, _⟩ => ⟨S16384x8, .f32⟩
  | .hbm, ⟨3, _⟩ => ⟨S65536x1024, .f32⟩
  | .hbm, ⟨4, _⟩ => ⟨S2048x8x1024, .f32⟩
  | .hbm, ⟨5, _⟩ => ⟨S65536x1x1024, .f32⟩
  | .hbm, ⟨6, _⟩ => ⟨S2048x8x1024, .f32⟩
  | .hbm, ⟨7, _⟩ => ⟨S16384x1024, .f32⟩
  | .local _ .vmem, ⟨i, _⟩ => vmemTy i
  | .local _ .smem, ⟨0, _⟩ => ⟨S131072, .i32⟩
  | _, _ => ⟨S16384x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 134 → Bool
  | ⟨i, _⟩ => dmaSemScopedAt i

abbrev sig : RefSig :=
  ofTc nBuf bufTy 0 134 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_stg40_0 : Ref sig .tc := ⟨.vmem, 80, rfl⟩
abbrev cc0_stg40_1 : Ref sig .tc := ⟨.vmem, 81, rfl⟩
abbrev cc0_stg41_0 : Ref sig .tc := ⟨.vmem, 82, rfl⟩
abbrev cc0_stg41_1 : Ref sig .tc := ⟨.vmem, 83, rfl⟩
abbrev cc0_stg42_0 : Ref sig .tc := ⟨.vmem, 84, rfl⟩
abbrev cc0_stg42_1 : Ref sig .tc := ⟨.vmem, 85, rfl⟩
abbrev cc0_stg43_0 : Ref sig .tc := ⟨.vmem, 86, rfl⟩
abbrev cc0_stg43_1 : Ref sig .tc := ⟨.vmem, 87, rfl⟩
abbrev cc0_stg44_0 : Ref sig .tc := ⟨.vmem, 88, rfl⟩
abbrev cc0_stg44_1 : Ref sig .tc := ⟨.vmem, 89, rfl⟩
abbrev cc0_stg45_0 : Ref sig .tc := ⟨.vmem, 90, rfl⟩
abbrev cc0_stg45_1 : Ref sig .tc := ⟨.vmem, 91, rfl⟩
abbrev cc0_stg46_0 : Ref sig .tc := ⟨.vmem, 92, rfl⟩
abbrev cc0_stg46_1 : Ref sig .tc := ⟨.vmem, 93, rfl⟩
abbrev cc0_stg47_0 : Ref sig .tc := ⟨.vmem, 94, rfl⟩
abbrev cc0_stg47_1 : Ref sig .tc := ⟨.vmem, 95, rfl⟩
abbrev cc0_stg48_0 : Ref sig .tc := ⟨.vmem, 96, rfl⟩
abbrev cc0_stg48_1 : Ref sig .tc := ⟨.vmem, 97, rfl⟩
abbrev cc0_stg49_0 : Ref sig .tc := ⟨.vmem, 98, rfl⟩
abbrev cc0_stg49_1 : Ref sig .tc := ⟨.vmem, 99, rfl⟩
abbrev cc0_stg50_0 : Ref sig .tc := ⟨.vmem, 100, rfl⟩
abbrev cc0_stg50_1 : Ref sig .tc := ⟨.vmem, 101, rfl⟩
abbrev cc0_stg51_0 : Ref sig .tc := ⟨.vmem, 102, rfl⟩
abbrev cc0_stg51_1 : Ref sig .tc := ⟨.vmem, 103, rfl⟩
abbrev cc0_stg52_0 : Ref sig .tc := ⟨.vmem, 104, rfl⟩
abbrev cc0_stg52_1 : Ref sig .tc := ⟨.vmem, 105, rfl⟩
abbrev cc0_stg53_0 : Ref sig .tc := ⟨.vmem, 106, rfl⟩
abbrev cc0_stg53_1 : Ref sig .tc := ⟨.vmem, 107, rfl⟩
abbrev cc0_stg54_0 : Ref sig .tc := ⟨.vmem, 108, rfl⟩
abbrev cc0_stg54_1 : Ref sig .tc := ⟨.vmem, 109, rfl⟩
abbrev cc0_stg55_0 : Ref sig .tc := ⟨.vmem, 110, rfl⟩
abbrev cc0_stg55_1 : Ref sig .tc := ⟨.vmem, 111, rfl⟩
abbrev cc0_stg56_0 : Ref sig .tc := ⟨.vmem, 112, rfl⟩
abbrev cc0_stg56_1 : Ref sig .tc := ⟨.vmem, 113, rfl⟩
abbrev cc0_stg57_0 : Ref sig .tc := ⟨.vmem, 114, rfl⟩
abbrev cc0_stg57_1 : Ref sig .tc := ⟨.vmem, 115, rfl⟩
abbrev cc0_stg58_0 : Ref sig .tc := ⟨.vmem, 116, rfl⟩
abbrev cc0_stg58_1 : Ref sig .tc := ⟨.vmem, 117, rfl⟩
abbrev cc0_stg59_0 : Ref sig .tc := ⟨.vmem, 118, rfl⟩
abbrev cc0_stg59_1 : Ref sig .tc := ⟨.vmem, 119, rfl⟩
abbrev cc0_stg60_0 : Ref sig .tc := ⟨.vmem, 120, rfl⟩
abbrev cc0_stg60_1 : Ref sig .tc := ⟨.vmem, 121, rfl⟩
abbrev cc0_stg61_0 : Ref sig .tc := ⟨.vmem, 122, rfl⟩
abbrev cc0_stg61_1 : Ref sig .tc := ⟨.vmem, 123, rfl⟩
abbrev cc0_stg62_0 : Ref sig .tc := ⟨.vmem, 124, rfl⟩
abbrev cc0_stg62_1 : Ref sig .tc := ⟨.vmem, 125, rfl⟩
abbrev cc0_stg63_0 : Ref sig .tc := ⟨.vmem, 126, rfl⟩
abbrev cc0_stg63_1 : Ref sig .tc := ⟨.vmem, 127, rfl⟩
abbrev cc0_stg64_0 : Ref sig .tc := ⟨.vmem, 128, rfl⟩
abbrev cc0_stg64_1 : Ref sig .tc := ⟨.vmem, 129, rfl⟩
abbrev cc0_stg65_0 : Ref sig .tc := ⟨.vmem, 130, rfl⟩
abbrev cc0_stg65_1 : Ref sig .tc := ⟨.vmem, 131, rfl⟩
abbrev cc0_stg66_0 : Ref sig .tc := ⟨.vmem, 132, rfl⟩
abbrev cc0_stg66_1 : Ref sig .tc := ⟨.vmem, 133, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79
abbrev cc0_sem40_0 : DmaSem sig := 80
abbrev cc0_sem40_1 : DmaSem sig := 81
abbrev cc0_sem41_0 : DmaSem sig := 82
abbrev cc0_sem41_1 : DmaSem sig := 83
abbrev cc0_sem42_0 : DmaSem sig := 84
abbrev cc0_sem42_1 : DmaSem sig := 85
abbrev cc0_sem43_0 : DmaSem sig := 86
abbrev cc0_sem43_1 : DmaSem sig := 87
abbrev cc0_sem44_0 : DmaSem sig := 88
abbrev cc0_sem44_1 : DmaSem sig := 89
abbrev cc0_sem45_0 : DmaSem sig := 90
abbrev cc0_sem45_1 : DmaSem sig := 91
abbrev cc0_sem46_0 : DmaSem sig := 92
abbrev cc0_sem46_1 : DmaSem sig := 93
abbrev cc0_sem47_0 : DmaSem sig := 94
abbrev cc0_sem47_1 : DmaSem sig := 95
abbrev cc0_sem48_0 : DmaSem sig := 96
abbrev cc0_sem48_1 : DmaSem sig := 97
abbrev cc0_sem49_0 : DmaSem sig := 98
abbrev cc0_sem49_1 : DmaSem sig := 99
abbrev cc0_sem50_0 : DmaSem sig := 100
abbrev cc0_sem50_1 : DmaSem sig := 101
abbrev cc0_sem51_0 : DmaSem sig := 102
abbrev cc0_sem51_1 : DmaSem sig := 103
abbrev cc0_sem52_0 : DmaSem sig := 104
abbrev cc0_sem52_1 : DmaSem sig := 105
abbrev cc0_sem53_0 : DmaSem sig := 106
abbrev cc0_sem53_1 : DmaSem sig := 107
abbrev cc0_sem54_0 : DmaSem sig := 108
abbrev cc0_sem54_1 : DmaSem sig := 109
abbrev cc0_sem55_0 : DmaSem sig := 110
abbrev cc0_sem55_1 : DmaSem sig := 111
abbrev cc0_sem56_0 : DmaSem sig := 112
abbrev cc0_sem56_1 : DmaSem sig := 113
abbrev cc0_sem57_0 : DmaSem sig := 114
abbrev cc0_sem57_1 : DmaSem sig := 115
abbrev cc0_sem58_0 : DmaSem sig := 116
abbrev cc0_sem58_1 : DmaSem sig := 117
abbrev cc0_sem59_0 : DmaSem sig := 118
abbrev cc0_sem59_1 : DmaSem sig := 119
abbrev cc0_sem60_0 : DmaSem sig := 120
abbrev cc0_sem60_1 : DmaSem sig := 121
abbrev cc0_sem61_0 : DmaSem sig := 122
abbrev cc0_sem61_1 : DmaSem sig := 123
abbrev cc0_sem62_0 : DmaSem sig := 124
abbrev cc0_sem62_1 : DmaSem sig := 125
abbrev cc0_sem63_0 : DmaSem sig := 126
abbrev cc0_sem63_1 : DmaSem sig := 127
abbrev cc0_sem64_0 : DmaSem sig := 128
abbrev cc0_sem64_1 : DmaSem sig := 129
abbrev cc0_sem65_0 : DmaSem sig := 130
abbrev cc0_sem65_1 : DmaSem sig := 131
abbrev cc0_sem66_0 : DmaSem sig := 132
abbrev cc0_sem66_1 : DmaSem sig := 133

abbrev nD : Nat := 1
abbrev τ : Topo := Topo.v7x

variable {F : FTy → Type} [FloatOps F]

abbrev grid0 : Pipeline.Grid := ⟨1, ![2048], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c64_i32 : BitVec 32 := 64#32
  let v0 : BitVec 32 := Scalar.muli arg0 c64_i32
  let v1 : BitVec 32 := Scalar.addi v0 c0_i32
  let v2 : Index := Scalar.indexCast v1
  ![v2.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c0_i32 : BitVec 32 := 0#32
  let v1 : BitVec 32 := Scalar.addi v0 c0_i32
  let v2 : Index := Scalar.indexCast v1
  let v3 : BitVec 32 := pf.at 0 (Rect.unit (s := S131072) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_3 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.addi v0 c1_i32
  let v2 : Index := Scalar.indexCast v1
  let v3 : BitVec 32 := pf.at 0 (Rect.unit (s := S131072) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c2_i32 : BitVec 32 := 2#32
  let v1 : BitVec 32 := Scalar.addi v0 c2_i32
  let v2 : Index := Scalar.indexCast v1
  let v3 : BitVec 32 := pf.at 0 (Rect.unit (s := S131072) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c3_i32 : BitVec 32 := 3#32
  let v1 : BitVec 32 := Scalar.addi v0 c3_i32
  let v2 : Index := Scalar.indexCast v1
  let v3 : BitVec 32 := pf.at 0 (Rect.unit (s := S131072) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c4_i32 : BitVec 32 := 4#32
  let v1 : BitVec 32 := Scalar.addi v0 c4_i32
  let v2 : Index := Scalar.indexCast v1
  let v3 : BitVec 32 := pf.at 0 (Rect.unit (s := S131072) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c5_i32 : BitVec 32 := 5#32
  let v1 : BitVec 32 := Scalar.addi v0 c5_i32
  let v2 : Index := Scalar.indexCast v1
  let v3 : BitVec 32 := pf.at 0 (Rect.unit (s := S131072) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_8 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c6_i32 : BitVec 32 := 6#32
  let v1 : BitVec 32 := Scalar.addi v0 c6_i32
  let v2 : Index := Scalar.indexCast v1
  let v3 : BitVec 32 := pf.at 0 (Rect.unit (s := S131072) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_9 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c7_i32 : BitVec 32 := 7#32
  let v1 : BitVec 32 := Scalar.addi v0 c7_i32
  let v2 : Index := Scalar.indexCast v1
  let v3 : BitVec 32 := pf.at 0 (Rect.unit (s := S131072) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_10 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c8_i32 : BitVec 32 := 8#32
  let v1 : BitVec 32 := Scalar.addi v0 c8_i32
  let v2 : Index := Scalar.indexCast v1
  let v3 : BitVec 32 := pf.at 0 (Rect.unit (s := S131072) ![v2.toNat] S1.size (k0_off1_inb i 8)) numel1_S1
  let c0_i32 : BitVec 32 := 0#32
  let c0_i32_0 : BitVec 32 := 0#32
  let c0_i32_1 : BitVec 32 := 0#32
  ![v3.toNat, c0_i32.toNat, c0_i32_0.toNat]

def cc0_transform_11 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c9_i32 : BitVec 32 := 9#32
  let v1 : BitVec 32 := Scalar.addi v0 c9_i32
  let v2 : Index := Scalar.indexCast v1
  let v3 : BitVec 32 := pf.at 0 (Rect.unit (s := S131072) ![v2.toNat] S1.size (k0_off1_inb i 9)) numel1_S1
  let c0_i32 : BitVec 32 := 0#32
  let c0_i32_0 : BitVec 32 := 0#32
  let c0_i32_1 : BitVec 32 := 0#32
  ![v3.toNat, c0_i32.toNat, c0_i32_0.toNat]

def cc0_transform_12 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c10_i32 : BitVec 32 := 10#32
  let v1 : BitVec 32 := Scalar.addi v0 c10_i32
  let v2 : Index := Scalar.indexCast v1
  let v3 : BitVec 32 := pf.at 0 (Rect.unit (s := S131072) ![v2.toNat] S1.size (k0_off1_inb i 10)) numel1_S1
  let c0_i32 : BitVec 32 := 0#32
  let c0_i32_0 : BitVec 32 := 0#32
  let c0_i32_1 : BitVec 32 := 0#32
  ![v3.toNat, c0_i32.toNat, c0_i32_0.toNat]

def cc0_transform_13 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c11_i32 : BitVec 32 := 11#32
  let v1 : BitVec 32 := Scalar.addi v0 c11_i32
  let v2 : Index := Scalar.indexCast v1
  let v3 : BitVec 32 := pf.at 0 (Rect.unit (s := S131072) ![v2.toNat] S1.size (k0_off1_inb i 11)) numel1_S1
  let c0_i32 : BitVec 32 := 0#32
  let c0_i32_0 : BitVec 32 := 0#32
  let c0_i32_1 : BitVec 32 := 0#32
  ![v3.toNat, c0_i32.toNat, c0_i32_0.toNat]

def cc0_transform_14 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c12_i32 : BitVec 32 := 12#32
  let v1 : BitVec 32 := Scalar.addi v0 c12_i32
  let v2 : Index := Scalar.indexCast v1
  let v3 : BitVec 32 := pf.at 0 (Rect.unit (s := S131072) ![v2.toNat] S1.size (k0_off1_inb i 12)) numel1_S1
  let c0_i32 : BitVec 32 := 0#32
  let c0_i32_0 : BitVec 32 := 0#32
  let c0_i32_1 : BitVec 32 := 0#32
  ![v3.toNat, c0_i32.toNat, c0_i32_0.toNat]

def cc0_transform_15 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c13_i32 : BitVec 32 := 13#32
  let v1 : BitVec 32 := Scalar.addi v0 c13_i32
  let v2 : Index := Scalar.indexCast v1
  let v3 : BitVec 32 := pf.at 0 (Rect.unit (s := S131072) ![v2.toNat] S1.size (k0_off1_inb i 13)) numel1_S1
  let c0_i32 : BitVec 32 := 0#32
  let c0_i32_0 : BitVec 32 := 0#32
  let c0_i32_1 : BitVec 32 := 0#32
  ![v3.toNat, c0_i32.toNat, c0_i32_0.toNat]

def cc0_transform_16 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c14_i32 : BitVec 32 := 14#32
  let v1 : BitVec 32 := Scalar.addi v0 c14_i32
  let v2 : Index := Scalar.indexCast v1
  let v3 : BitVec 32 := pf.at 0 (Rect.unit (s := S131072) ![v2.toNat] S1.size (k0_off1_inb i 14)) numel1_S1
  let c0_i32 : BitVec 32 := 0#32
  let c0_i32_0 : BitVec 32 := 0#32
  let c0_i32_1 : BitVec 32 := 0#32
  ![v3.toNat, c0_i32.toNat, c0_i32_0.toNat]

def cc0_transform_17 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c15_i32 : BitVec 32 := 15#32
  let v1 : BitVec 32 := Scalar.addi v0 c15_i32
  let v2 : Index := Scalar.indexCast v1
  let v3 : BitVec 32 := pf.at 0 (Rect.unit (s := S131072) ![v2.toNat] S1.size (k0_off1_inb i 15)) numel1_S1
  let c0_i32 : BitVec 32 := 0#32
  let c0_i32_0 : BitVec 32 := 0#32
  let c0_i32_1 : BitVec 32 := 0#32
  ![v3.toNat, c0_i32.toNat, c0_i32_0.toNat]

def cc0_transform_18 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c16_i32 : BitVec 32 := 16#32
  let v1 : BitVec 32 := Scalar.addi v0 c16_i32
  let v2 : Index := Scalar.indexCast v1
  let v3 : BitVec 32 := pf.at 0 (Rect.unit (s := S131072) ![v2.toNat] S1.size (k0_off1_inb i 16)) numel1_S1
  let c0_i32 : BitVec 32 := 0#32
  let c0_i32_0 : BitVec 32 := 0#32
  let c0_i32_1 : BitVec 32 := 0#32
  ![v3.toNat, c0_i32.toNat, c0_i32_0.toNat]

def cc0_transform_19 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c17_i32 : BitVec 32 := 17#32
  let v1 : BitVec 32 := Scalar.addi v0 c17_i32
  let v2 : Index := Scalar.indexCast v1
  let v3 : BitVec 32 := pf.at 0 (Rect.unit (s := S131072) ![v2.toNat] S1.size (k0_off1_inb i 17)) numel1_S1
  let c0_i32 : BitVec 32 := 0#32
  let c0_i32_0 : BitVec 32 := 0#32
  let c0_i32_1 : BitVec 32 := 0#32
  ![v3.toNat, c0_i32.toNat, c0_i32_0.toNat]

def cc0_transform_20 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c18_i32 : BitVec 32 := 18#32
  let v1 : BitVec 32 := Scalar.addi v0 c18_i32
  let v2 : Index := Scalar.indexCast v1
  let v3 : BitVec 32 := pf.at 0 (Rect.unit (s := S131072) ![v2.toNat] S1.size (k0_off1_inb i 18)) numel1_S1
  let c0_i32 : BitVec 32 := 0#32
  let c0_i32_0 : BitVec 32 := 0#32
  let c0_i32_1 : BitVec 32 := 0#32
  ![v3.toNat, c0_i32.toNat, c0_i32_0.toNat]

def cc0_transform_21 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c19_i32 : BitVec 32 := 19#32
  let v1 : BitVec 32 := Scalar.addi v0 c19_i32
  let v2 : Index := Scalar.indexCast v1
  let v3 : BitVec 32 := pf.at 0 (Rect.unit (s := S131072) ![v2.toNat] S1.size (k0_off1_inb i 19)) numel1_S1
  let c0_i32 : BitVec 32 := 0#32
  let c0_i32_0 : BitVec 32 := 0#32
  let c0_i32_1 : BitVec 32 := 0#32
  ![v3.toNat, c0_i32.toNat, c0_i32_0.toNat]

def cc0_transform_22 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c20_i32 : BitVec 32 := 20#32
  let v1 : BitVec 32 := Scalar.addi v0 c20_i32
  let v2 : Index := Scalar.indexCast v1
  let v3 : BitVec 32 := pf.at 0 (Rect.unit (s := S131072) ![v2.toNat] S1.size (k0_off1_inb i 20)) numel1_S1
  let c0_i32 : BitVec 32 := 0#32
  let c0_i32_0 : BitVec 32 := 0#32
  let c0_i32_1 : BitVec 32 := 0#32
  ![v3.toNat, c0_i32.toNat, c0_i32_0.toNat]

def cc0_transform_23 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c21_i32 : BitVec 32 := 21#32
  let v1 : BitVec 32 := Scalar.addi v0 c21_i32
  let v2 : Index := Scalar.indexCast v1
  let v3 : BitVec 32 := pf.at 0 (Rect.unit (s := S131072) ![v2.toNat] S1.size (k0_off1_inb i 21)) numel1_S1
  let c0_i32 : BitVec 32 := 0#32
  let c0_i32_0 : BitVec 32 := 0#32
  let c0_i32_1 : BitVec 32 := 0#32
  ![v3.toNat, c0_i32.toNat, c0_i32_0.toNat]

def cc0_transform_24 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c22_i32 : BitVec 32 := 22#32
  let v1 : BitVec 32 := Scalar.addi v0 c22_i32
  let v2 : Index := Scalar.indexCast v1
  let v3 : BitVec 32 := pf.at 0 (Rect.unit (s := S131072) ![v2.toNat] S1.size (k0_off1_inb i 22)) numel1_S1
  let c0_i32 : BitVec 32 := 0#32
  let c0_i32_0 : BitVec 32 := 0#32
  let c0_i32_1 : BitVec 32 := 0#32
  ![v3.toNat, c0_i32.toNat, c0_i32_0.toNat]

def cc0_transform_25 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c23_i32 : BitVec 32 := 23#32
  let v1 : BitVec 32 := Scalar.addi v0 c23_i32
  let v2 : Index := Scalar.indexCast v1
  let v3 : BitVec 32 := pf.at 0 (Rect.unit (s := S131072) ![v2.toNat] S1.size (k0_off1_inb i 23)) numel1_S1
  let c0_i32 : BitVec 32 := 0#32
  let c0_i32_0 : BitVec 32 := 0#32
  let c0_i32_1 : BitVec 32 := 0#32
  ![v3.toNat, c0_i32.toNat, c0_i32_0.toNat]

def cc0_transform_26 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c24_i32 : BitVec 32 := 24#32
  let v1 : BitVec 32 := Scalar.addi v0 c24_i32
  let v2 : Index := Scalar.indexCast v1
  let v3 : BitVec 32 := pf.at 0 (Rect.unit (s := S131072) ![v2.toNat] S1.size (k0_off1_inb i 24)) numel1_S1
  let c0_i32 : BitVec 32 := 0#32
  let c0_i32_0 : BitVec 32 := 0#32
  let c0_i32_1 : BitVec 32 := 0#32
  ![v3.toNat, c0_i32.toNat, c0_i32_0.toNat]

def cc0_transform_27 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c25_i32 : BitVec 32 := 25#32
  let v1 : BitVec 32 := Scalar.addi v0 c25_i32
  let v2 : Index := Scalar.indexCast v1
  let v3 : BitVec 32 := pf.at 0 (Rect.unit (s := S131072) ![v2.toNat] S1.size (k0_off1_inb i 25)) numel1_S1
  let c0_i32 : BitVec 32 := 0#32
  let c0_i32_0 : BitVec 32 := 0#32
  let c0_i32_1 : BitVec 32 := 0#32
  ![v3.toNat, c0_i32.toNat, c0_i32_0.toNat]

def cc0_transform_28 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c26_i32 : BitVec 32 := 26#32
  let v1 : BitVec 32 := Scalar.addi v0 c26_i32
  let v2 : Index := Scalar.indexCast v1
  let v3 : BitVec 32 := pf.at 0 (Rect.unit (s := S131072) ![v2.toNat] S1.size (k0_off1_inb i 26)) numel1_S1
  let c0_i32 : BitVec 32 := 0#32
  let c0_i32_0 : BitVec 32 := 0#32
  let c0_i32_1 : BitVec 32 := 0#32
  ![v3.toNat, c0_i32.toNat, c0_i32_0.toNat]

def cc0_transform_29 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c27_i32 : BitVec 32 := 27#32
  let v1 : BitVec 32 := Scalar.addi v0 c27_i32
  let v2 : Index := Scalar.indexCast v1
  let v3 : BitVec 32 := pf.at 0 (Rect.unit (s := S131072) ![v2.toNat] S1.size (k0_off1_inb i 27)) numel1_S1
  let c0_i32 : BitVec 32 := 0#32
  let c0_i32_0 : BitVec 32 := 0#32
  let c0_i32_1 : BitVec 32 := 0#32
  ![v3.toNat, c0_i32.toNat, c0_i32_0.toNat]

def cc0_transform_30 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c28_i32 : BitVec 32 := 28#32
  let v1 : BitVec 32 := Scalar.addi v0 c28_i32
  let v2 : Index := Scalar.indexCast v1
  let v3 : BitVec 32 := pf.at 0 (Rect.unit (s := S131072) ![v2.toNat] S1.size (k0_off1_inb i 28)) numel1_S1
  let c0_i32 : BitVec 32 := 0#32
  let c0_i32_0 : BitVec 32 := 0#32
  let c0_i32_1 : BitVec 32 := 0#32
  ![v3.toNat, c0_i32.toNat, c0_i32_0.toNat]

def cc0_transform_31 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c29_i32 : BitVec 32 := 29#32
  let v1 : BitVec 32 := Scalar.addi v0 c29_i32
  let v2 : Index := Scalar.indexCast v1
  let v3 : BitVec 32 := pf.at 0 (Rect.unit (s := S131072) ![v2.toNat] S1.size (k0_off1_inb i 29)) numel1_S1
  let c0_i32 : BitVec 32 := 0#32
  let c0_i32_0 : BitVec 32 := 0#32
  let c0_i32_1 : BitVec 32 := 0#32
  ![v3.toNat, c0_i32.toNat, c0_i32_0.toNat]

def cc0_transform_32 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c30_i32 : BitVec 32 := 30#32
  let v1 : BitVec 32 := Scalar.addi v0 c30_i32
  let v2 : Index := Scalar.indexCast v1
  let v3 : BitVec 32 := pf.at 0 (Rect.unit (s := S131072) ![v2.toNat] S1.size (k0_off1_inb i 30)) numel1_S1
  let c0_i32 : BitVec 32 := 0#32
  let c0_i32_0 : BitVec 32 := 0#32
  let c0_i32_1 : BitVec 32 := 0#32
  ![v3.toNat, c0_i32.toNat, c0_i32_0.toNat]

def cc0_transform_33 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c31_i32 : BitVec 32 := 31#32
  let v1 : BitVec 32 := Scalar.addi v0 c31_i32
  let v2 : Index := Scalar.indexCast v1
  let v3 : BitVec 32 := pf.at 0 (Rect.unit (s := S131072) ![v2.toNat] S1.size (k0_off1_inb i 31)) numel1_S1
  let c0_i32 : BitVec 32 := 0#32
  let c0_i32_0 : BitVec 32 := 0#32
  let c0_i32_1 : BitVec 32 := 0#32
  ![v3.toNat, c0_i32.toNat, c0_i32_0.toNat]

def cc0_transform_34 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c32_i32 : BitVec 32 := 32#32
  let v1 : BitVec 32 := Scalar.addi v0 c32_i32
  let v2 : Index := Scalar.indexCast v1
  let v3 : BitVec 32 := pf.at 0 (Rect.unit (s := S131072) ![v2.toNat] S1.size (k0_off1_inb i 32)) numel1_S1
  let c0_i32 : BitVec 32 := 0#32
  let c0_i32_0 : BitVec 32 := 0#32
  let c0_i32_1 : BitVec 32 := 0#32
  ![v3.toNat, c0_i32.toNat, c0_i32_0.toNat]

def cc0_transform_35 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c33_i32 : BitVec 32 := 33#32
  let v1 : BitVec 32 := Scalar.addi v0 c33_i32
  let v2 : Index := Scalar.indexCast v1
  let v3 : BitVec 32 := pf.at 0 (Rect.unit (s := S131072) ![v2.toNat] S1.size (k0_off1_inb i 33)) numel1_S1
  let c0_i32 : BitVec 32 := 0#32
  let c0_i32_0 : BitVec 32 := 0#32
  let c0_i32_1 : BitVec 32 := 0#32
  ![v3.toNat, c0_i32.toNat, c0_i32_0.toNat]

def cc0_transform_36 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c34_i32 : BitVec 32 := 34#32
  let v1 : BitVec 32 := Scalar.addi v0 c34_i32
  let v2 : Index := Scalar.indexCast v1
  let v3 : BitVec 32 := pf.at 0 (Rect.unit (s := S131072) ![v2.toNat] S1.size (k0_off1_inb i 34)) numel1_S1
  let c0_i32 : BitVec 32 := 0#32
  let c0_i32_0 : BitVec 32 := 0#32
  let c0_i32_1 : BitVec 32 := 0#32
  ![v3.toNat, c0_i32.toNat, c0_i32_0.toNat]

def cc0_transform_37 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c35_i32 : BitVec 32 := 35#32
  let v1 : BitVec 32 := Scalar.addi v0 c35_i32
  let v2 : Index := Scalar.indexCast v1
  let v3 : BitVec 32 := pf.at 0 (Rect.unit (s := S131072) ![v2.toNat] S1.size (k0_off1_inb i 35)) numel1_S1
  let c0_i32 : BitVec 32 := 0#32
  let c0_i32_0 : BitVec 32 := 0#32
  let c0_i32_1 : BitVec 32 := 0#32
  ![v3.toNat, c0_i32.toNat, c0_i32_0.toNat]

def cc0_transform_38 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c36_i32 : BitVec 32 := 36#32
  let v1 : BitVec 32 := Scalar.addi v0 c36_i32
  let v2 : Index := Scalar.indexCast v1
  let v3 : BitVec 32 := pf.at 0 (Rect.unit (s := S131072) ![v2.toNat] S1.size (k0_off1_inb i 36)) numel1_S1
  let c0_i32 : BitVec 32 := 0#32
  let c0_i32_0 : BitVec 32 := 0#32
  let c0_i32_1 : BitVec 32 := 0#32
  ![v3.toNat, c0_i32.toNat, c0_i32_0.toNat]

def cc0_transform_39 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c37_i32 : BitVec 32 := 37#32
  let v1 : BitVec 32 := Scalar.addi v0 c37_i32
  let v2 : Index := Scalar.indexCast v1
  let v3 : BitVec 32 := pf.at 0 (Rect.unit (s := S131072) ![v2.toNat] S1.size (k0_off1_inb i 37)) numel1_S1
  let c0_i32 : BitVec 32 := 0#32
  let c0_i32_0 : BitVec 32 := 0#32
  let c0_i32_1 : BitVec 32 := 0#32
  ![v3.toNat, c0_i32.toNat, c0_i32_0.toNat]

def cc0_transform_40 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c38_i32 : BitVec 32 := 38#32
  let v1 : BitVec 32 := Scalar.addi v0 c38_i32
  let v2 : Index := Scalar.indexCast v1
  let v3 : BitVec 32 := pf.at 0 (Rect.unit (s := S131072) ![v2.toNat] S1.size (k0_off1_inb i 38)) numel1_S1
  let c0_i32 : BitVec 32 := 0#32
  let c0_i32_0 : BitVec 32 := 0#32
  let c0_i32_1 : BitVec 32 := 0#32
  ![v3.toNat, c0_i32.toNat, c0_i32_0.toNat]

def cc0_transform_41 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c39_i32 : BitVec 32 := 39#32
  let v1 : BitVec 32 := Scalar.addi v0 c39_i32
  let v2 : Index := Scalar.indexCast v1
  let v3 : BitVec 32 := pf.at 0 (Rect.unit (s := S131072) ![v2.toNat] S1.size (k0_off1_inb i 39)) numel1_S1
  let c0_i32 : BitVec 32 := 0#32
  let c0_i32_0 : BitVec 32 := 0#32
  let c0_i32_1 : BitVec 32 := 0#32
  ![v3.toNat, c0_i32.toNat, c0_i32_0.toNat]

def cc0_transform_42 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c40_i32 : BitVec 32 := 40#32
  let v1 : BitVec 32 := Scalar.addi v0 c40_i32
  let v2 : Index := Scalar.indexCast v1
  let v3 : BitVec 32 := pf.at 0 (Rect.unit (s := S131072) ![v2.toNat] S1.size (k0_off1_inb i 40)) numel1_S1
  let c0_i32 : BitVec 32 := 0#32
  let c0_i32_0 : BitVec 32 := 0#32
  let c0_i32_1 : BitVec 32 := 0#32
  ![v3.toNat, c0_i32.toNat, c0_i32_0.toNat]

def cc0_transform_43 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c41_i32 : BitVec 32 := 41#32
  let v1 : BitVec 32 := Scalar.addi v0 c41_i32
  let v2 : Index := Scalar.indexCast v1
  let v3 : BitVec 32 := pf.at 0 (Rect.unit (s := S131072) ![v2.toNat] S1.size (k0_off1_inb i 41)) numel1_S1
  let c0_i32 : BitVec 32 := 0#32
  let c0_i32_0 : BitVec 32 := 0#32
  let c0_i32_1 : BitVec 32 := 0#32
  ![v3.toNat, c0_i32.toNat, c0_i32_0.toNat]

def cc0_transform_44 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c42_i32 : BitVec 32 := 42#32
  let v1 : BitVec 32 := Scalar.addi v0 c42_i32
  let v2 : Index := Scalar.indexCast v1
  let v3 : BitVec 32 := pf.at 0 (Rect.unit (s := S131072) ![v2.toNat] S1.size (k0_off1_inb i 42)) numel1_S1
  let c0_i32 : BitVec 32 := 0#32
  let c0_i32_0 : BitVec 32 := 0#32
  let c0_i32_1 : BitVec 32 := 0#32
  ![v3.toNat, c0_i32.toNat, c0_i32_0.toNat]

def cc0_transform_45 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c43_i32 : BitVec 32 := 43#32
  let v1 : BitVec 32 := Scalar.addi v0 c43_i32
  let v2 : Index := Scalar.indexCast v1
  let v3 : BitVec 32 := pf.at 0 (Rect.unit (s := S131072) ![v2.toNat] S1.size (k0_off1_inb i 43)) numel1_S1
  let c0_i32 : BitVec 32 := 0#32
  let c0_i32_0 : BitVec 32 := 0#32
  let c0_i32_1 : BitVec 32 := 0#32
  ![v3.toNat, c0_i32.toNat, c0_i32_0.toNat]

def cc0_transform_46 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c44_i32 : BitVec 32 := 44#32
  let v1 : BitVec 32 := Scalar.addi v0 c44_i32
  let v2 : Index := Scalar.indexCast v1
  let v3 : BitVec 32 := pf.at 0 (Rect.unit (s := S131072) ![v2.toNat] S1.size (k0_off1_inb i 44)) numel1_S1
  let c0_i32 : BitVec 32 := 0#32
  let c0_i32_0 : BitVec 32 := 0#32
  let c0_i32_1 : BitVec 32 := 0#32
  ![v3.toNat, c0_i32.toNat, c0_i32_0.toNat]

def cc0_transform_47 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c45_i32 : BitVec 32 := 45#32
  let v1 : BitVec 32 := Scalar.addi v0 c45_i32
  let v2 : Index := Scalar.indexCast v1
  let v3 : BitVec 32 := pf.at 0 (Rect.unit (s := S131072) ![v2.toNat] S1.size (k0_off1_inb i 45)) numel1_S1
  let c0_i32 : BitVec 32 := 0#32
  let c0_i32_0 : BitVec 32 := 0#32
  let c0_i32_1 : BitVec 32 := 0#32
  ![v3.toNat, c0_i32.toNat, c0_i32_0.toNat]

def cc0_transform_48 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c46_i32 : BitVec 32 := 46#32
  let v1 : BitVec 32 := Scalar.addi v0 c46_i32
  let v2 : Index := Scalar.indexCast v1
  let v3 : BitVec 32 := pf.at 0 (Rect.unit (s := S131072) ![v2.toNat] S1.size (k0_off1_inb i 46)) numel1_S1
  let c0_i32 : BitVec 32 := 0#32
  let c0_i32_0 : BitVec 32 := 0#32
  let c0_i32_1 : BitVec 32 := 0#32
  ![v3.toNat, c0_i32.toNat, c0_i32_0.toNat]

def cc0_transform_49 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c47_i32 : BitVec 32 := 47#32
  let v1 : BitVec 32 := Scalar.addi v0 c47_i32
  let v2 : Index := Scalar.indexCast v1
  let v3 : BitVec 32 := pf.at 0 (Rect.unit (s := S131072) ![v2.toNat] S1.size (k0_off1_inb i 47)) numel1_S1
  let c0_i32 : BitVec 32 := 0#32
  let c0_i32_0 : BitVec 32 := 0#32
  let c0_i32_1 : BitVec 32 := 0#32
  ![v3.toNat, c0_i32.toNat, c0_i32_0.toNat]

def cc0_transform_50 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c48_i32 : BitVec 32 := 48#32
  let v1 : BitVec 32 := Scalar.addi v0 c48_i32
  let v2 : Index := Scalar.indexCast v1
  let v3 : BitVec 32 := pf.at 0 (Rect.unit (s := S131072) ![v2.toNat] S1.size (k0_off1_inb i 48)) numel1_S1
  let c0_i32 : BitVec 32 := 0#32
  let c0_i32_0 : BitVec 32 := 0#32
  let c0_i32_1 : BitVec 32 := 0#32
  ![v3.toNat, c0_i32.toNat, c0_i32_0.toNat]

def cc0_transform_51 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c49_i32 : BitVec 32 := 49#32
  let v1 : BitVec 32 := Scalar.addi v0 c49_i32
  let v2 : Index := Scalar.indexCast v1
  let v3 : BitVec 32 := pf.at 0 (Rect.unit (s := S131072) ![v2.toNat] S1.size (k0_off1_inb i 49)) numel1_S1
  let c0_i32 : BitVec 32 := 0#32
  let c0_i32_0 : BitVec 32 := 0#32
  let c0_i32_1 : BitVec 32 := 0#32
  ![v3.toNat, c0_i32.toNat, c0_i32_0.toNat]

def cc0_transform_52 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c50_i32 : BitVec 32 := 50#32
  let v1 : BitVec 32 := Scalar.addi v0 c50_i32
  let v2 : Index := Scalar.indexCast v1
  let v3 : BitVec 32 := pf.at 0 (Rect.unit (s := S131072) ![v2.toNat] S1.size (k0_off1_inb i 50)) numel1_S1
  let c0_i32 : BitVec 32 := 0#32
  let c0_i32_0 : BitVec 32 := 0#32
  let c0_i32_1 : BitVec 32 := 0#32
  ![v3.toNat, c0_i32.toNat, c0_i32_0.toNat]

def cc0_transform_53 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c51_i32 : BitVec 32 := 51#32
  let v1 : BitVec 32 := Scalar.addi v0 c51_i32
  let v2 : Index := Scalar.indexCast v1
  let v3 : BitVec 32 := pf.at 0 (Rect.unit (s := S131072) ![v2.toNat] S1.size (k0_off1_inb i 51)) numel1_S1
  let c0_i32 : BitVec 32 := 0#32
  let c0_i32_0 : BitVec 32 := 0#32
  let c0_i32_1 : BitVec 32 := 0#32
  ![v3.toNat, c0_i32.toNat, c0_i32_0.toNat]

def cc0_transform_54 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c52_i32 : BitVec 32 := 52#32
  let v1 : BitVec 32 := Scalar.addi v0 c52_i32
  let v2 : Index := Scalar.indexCast v1
  let v3 : BitVec 32 := pf.at 0 (Rect.unit (s := S131072) ![v2.toNat] S1.size (k0_off1_inb i 52)) numel1_S1
  let c0_i32 : BitVec 32 := 0#32
  let c0_i32_0 : BitVec 32 := 0#32
  let c0_i32_1 : BitVec 32 := 0#32
  ![v3.toNat, c0_i32.toNat, c0_i32_0.toNat]

def cc0_transform_55 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c53_i32 : BitVec 32 := 53#32
  let v1 : BitVec 32 := Scalar.addi v0 c53_i32
  let v2 : Index := Scalar.indexCast v1
  let v3 : BitVec 32 := pf.at 0 (Rect.unit (s := S131072) ![v2.toNat] S1.size (k0_off1_inb i 53)) numel1_S1
  let c0_i32 : BitVec 32 := 0#32
  let c0_i32_0 : BitVec 32 := 0#32
  let c0_i32_1 : BitVec 32 := 0#32
  ![v3.toNat, c0_i32.toNat, c0_i32_0.toNat]

def cc0_transform_56 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c54_i32 : BitVec 32 := 54#32
  let v1 : BitVec 32 := Scalar.addi v0 c54_i32
  let v2 : Index := Scalar.indexCast v1
  let v3 : BitVec 32 := pf.at 0 (Rect.unit (s := S131072) ![v2.toNat] S1.size (k0_off1_inb i 54)) numel1_S1
  let c0_i32 : BitVec 32 := 0#32
  let c0_i32_0 : BitVec 32 := 0#32
  let c0_i32_1 : BitVec 32 := 0#32
  ![v3.toNat, c0_i32.toNat, c0_i32_0.toNat]

def cc0_transform_57 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c55_i32 : BitVec 32 := 55#32
  let v1 : BitVec 32 := Scalar.addi v0 c55_i32
  let v2 : Index := Scalar.indexCast v1
  let v3 : BitVec 32 := pf.at 0 (Rect.unit (s := S131072) ![v2.toNat] S1.size (k0_off1_inb i 55)) numel1_S1
  let c0_i32 : BitVec 32 := 0#32
  let c0_i32_0 : BitVec 32 := 0#32
  let c0_i32_1 : BitVec 32 := 0#32
  ![v3.toNat, c0_i32.toNat, c0_i32_0.toNat]

def cc0_transform_58 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c56_i32 : BitVec 32 := 56#32
  let v1 : BitVec 32 := Scalar.addi v0 c56_i32
  let v2 : Index := Scalar.indexCast v1
  let v3 : BitVec 32 := pf.at 0 (Rect.unit (s := S131072) ![v2.toNat] S1.size (k0_off1_inb i 56)) numel1_S1
  let c0_i32 : BitVec 32 := 0#32
  let c0_i32_0 : BitVec 32 := 0#32
  let c0_i32_1 : BitVec 32 := 0#32
  ![v3.toNat, c0_i32.toNat, c0_i32_0.toNat]

def cc0_transform_59 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c57_i32 : BitVec 32 := 57#32
  let v1 : BitVec 32 := Scalar.addi v0 c57_i32
  let v2 : Index := Scalar.indexCast v1
  let v3 : BitVec 32 := pf.at 0 (Rect.unit (s := S131072) ![v2.toNat] S1.size (k0_off1_inb i 57)) numel1_S1
  let c0_i32 : BitVec 32 := 0#32
  let c0_i32_0 : BitVec 32 := 0#32
  let c0_i32_1 : BitVec 32 := 0#32
  ![v3.toNat, c0_i32.toNat, c0_i32_0.toNat]

def cc0_transform_60 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c58_i32 : BitVec 32 := 58#32
  let v1 : BitVec 32 := Scalar.addi v0 c58_i32
  let v2 : Index := Scalar.indexCast v1
  let v3 : BitVec 32 := pf.at 0 (Rect.unit (s := S131072) ![v2.toNat] S1.size (k0_off1_inb i 58)) numel1_S1
  let c0_i32 : BitVec 32 := 0#32
  let c0_i32_0 : BitVec 32 := 0#32
  let c0_i32_1 : BitVec 32 := 0#32
  ![v3.toNat, c0_i32.toNat, c0_i32_0.toNat]

def cc0_transform_61 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c59_i32 : BitVec 32 := 59#32
  let v1 : BitVec 32 := Scalar.addi v0 c59_i32
  let v2 : Index := Scalar.indexCast v1
  let v3 : BitVec 32 := pf.at 0 (Rect.unit (s := S131072) ![v2.toNat] S1.size (k0_off1_inb i 59)) numel1_S1
  let c0_i32 : BitVec 32 := 0#32
  let c0_i32_0 : BitVec 32 := 0#32
  let c0_i32_1 : BitVec 32 := 0#32
  ![v3.toNat, c0_i32.toNat, c0_i32_0.toNat]

def cc0_transform_62 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c60_i32 : BitVec 32 := 60#32
  let v1 : BitVec 32 := Scalar.addi v0 c60_i32
  let v2 : Index := Scalar.indexCast v1
  let v3 : BitVec 32 := pf.at 0 (Rect.unit (s := S131072) ![v2.toNat] S1.size (k0_off1_inb i 60)) numel1_S1
  let c0_i32 : BitVec 32 := 0#32
  let c0_i32_0 : BitVec 32 := 0#32
  let c0_i32_1 : BitVec 32 := 0#32
  ![v3.toNat, c0_i32.toNat, c0_i32_0.toNat]

def cc0_transform_63 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c61_i32 : BitVec 32 := 61#32
  let v1 : BitVec 32 := Scalar.addi v0 c61_i32
  let v2 : Index := Scalar.indexCast v1
  let v3 : BitVec 32 := pf.at 0 (Rect.unit (s := S131072) ![v2.toNat] S1.size (k0_off1_inb i 61)) numel1_S1
  let c0_i32 : BitVec 32 := 0#32
  let c0_i32_0 : BitVec 32 := 0#32
  let c0_i32_1 : BitVec 32 := 0#32
  ![v3.toNat, c0_i32.toNat, c0_i32_0.toNat]

def cc0_transform_64 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c62_i32 : BitVec 32 := 62#32
  let v1 : BitVec 32 := Scalar.addi v0 c62_i32
  let v2 : Index := Scalar.indexCast v1
  let v3 : BitVec 32 := pf.at 0 (Rect.unit (s := S131072) ![v2.toNat] S1.size (k0_off1_inb i 62)) numel1_S1
  let c0_i32 : BitVec 32 := 0#32
  let c0_i32_0 : BitVec 32 := 0#32
  let c0_i32_1 : BitVec 32 := 0#32
  ![v3.toNat, c0_i32.toNat, c0_i32_0.toNat]

def cc0_transform_65 (k0_off1_inb : ∀ i : grid0.Coords, ∀ (r : Fin 64), ∀ a, (k0_off1 i (BitVec.ofNat 32 r.val)) a + S1.size a ≤ S131072.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli arg0 c64_i32
  let c63_i32 : BitVec 32 := 63#32
  let v1 : BitVec 32 := Scalar.addi v0 c63_i32
  let v2 : Index := Scalar.indexCast v1
  let v3 : BitVec 32 := pf.at 0 (Rect.unit (s := S131072) ![v2.toNat] S1.size (k0_off1_inb i 63)) numel1_S1
  let c0_i32 : BitVec 32 := 0#32
  let c0_i32_0 : BitVec 32 := 0#32
  let c0_i32_1 : BitVec 32 := 0#32
  ![v3.toNat, c0_i32.toNat, c0_i32_0.toNat]

def cc0_transform_66 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x1x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x1x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x1x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x1x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x1x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x1x1024 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x1x1024 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x1x1024 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x1x1024 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x1x1024 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x1x1024 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x1x1024 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1x1x1024 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S1x1x1024 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S1x1x1024 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S1x1x1024 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S1x1x1024 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S1x1x1024 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S1x1x1024 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S1x1x1024 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S1x1x1024 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S1x1x1024 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S1x1x1024 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]

abbrev stage0_48 : Fin 2 → Memref sig .tc .vmem S1x1x1024 .f32 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true]

abbrev stage0_49 : Fin 2 → Memref sig .tc .vmem S1x1x1024 .f32 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]

abbrev stage0_50 : Fin 2 → Memref sig .tc .vmem S1x1x1024 .f32 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true]

abbrev stage0_51 : Fin 2 → Memref sig .tc .vmem S1x1x1024 .f32 := fun | 0 => Memref.whole cc0_stg51_0 | 1 => Memref.whole cc0_stg51_1 | ⟨_ + 2, h⟩ => absurd h (Nat.not_lt.2 (Nat.le_add_left _ _))
abbrev sem0_51 : Fin 2 → DmaSem sig := fun | 0 => cc0_sem51_0 | 1 => cc0_sem51_1 | ⟨_ + 2, h⟩ => absurd h (Nat.not_lt.2 (Nat.le_add_left _ _))
abbrev reads0_51 : Fin grid0.rank → Bool := ![true]

abbrev stage0_52 : Fin 2 → Memref sig .tc .vmem S1x1x1024 .f32 := fun | 0 => Memref.whole cc0_stg52_0 | 1 => Memref.whole cc0_stg52_1 | ⟨_ + 2, h⟩ => absurd h (Nat.not_lt.2 (Nat.le_add_left _ _))
abbrev sem0_52 : Fin 2 → DmaSem sig := fun | 0 => cc0_sem52_0 | 1 => cc0_sem52_1 | ⟨_ + 2, h⟩ => absurd h (Nat.not_lt.2 (Nat.le_add_left _ _))
abbrev reads0_52 : Fin grid0.rank → Bool := ![true]

abbrev stage0_53 : Fin 2 → Memref sig .tc .vmem S1x1x1024 .f32 := fun | 0 => Memref.whole cc0_stg53_0 | 1 => Memref.whole cc0_stg53_1 | ⟨_ + 2, h⟩ => absurd h (Nat.not_lt.2 (Nat.le_add_left _ _))
abbrev sem0_53 : Fin 2 → DmaSem sig := fun | 0 => cc0_sem53_0 | 1 => cc0_sem53_1 | ⟨_ + 2, h⟩ => absurd h (Nat.not_lt.2 (Nat.le_add_left _ _))
abbrev reads0_53 : Fin grid0.rank → Bool := ![true]

abbrev stage0_54 : Fin 2 → Memref sig .tc .vmem S1x1x1024 .f32 := fun | 0 => Memref.whole cc0_stg54_0 | 1 => Memref.whole cc0_stg54_1 | ⟨_ + 2, h⟩ => absurd h (Nat.not_lt.2 (Nat.le_add_left _ _))
abbrev sem0_54 : Fin 2 → DmaSem sig := fun | 0 => cc0_sem54_0 | 1 => cc0_sem54_1 | ⟨_ + 2, h⟩ => absurd h (Nat.not_lt.2 (Nat.le_add_left _ _))
abbrev reads0_54 : Fin grid0.rank → Bool := ![true]

abbrev stage0_55 : Fin 2 → Memref sig .tc .vmem S1x1x1024 .f32 := fun | 0 => Memref.whole cc0_stg55_0 | 1 => Memref.whole cc0_stg55_1 | ⟨_ + 2, h⟩ => absurd h (Nat.not_lt.2 (Nat.le_add_left _ _))
abbrev sem0_55 : Fin 2 → DmaSem sig := fun | 0 => cc0_sem55_0 | 1 => cc0_sem55_1 | ⟨_ + 2, h⟩ => absurd h (Nat.not_lt.2 (Nat.le_add_left _ _))
abbrev reads0_55 : Fin grid0.rank → Bool := ![true]

abbrev stage0_56 : Fin 2 → Memref sig .tc .vmem S1x1x1024 .f32 := fun | 0 => Memref.whole cc0_stg56_0 | 1 => Memref.whole cc0_stg56_1 | ⟨_ + 2, h⟩ => absurd h (Nat.not_lt.2 (Nat.le_add_left _ _))
abbrev sem0_56 : Fin 2 → DmaSem sig := fun | 0 => cc0_sem56_0 | 1 => cc0_sem56_1 | ⟨_ + 2, h⟩ => absurd h (Nat.not_lt.2 (Nat.le_add_left _ _))
abbrev reads0_56 : Fin grid0.rank → Bool := ![true]

abbrev stage0_57 : Fin 2 → Memref sig .tc .vmem S1x1x1024 .f32 := fun | 0 => Memref.whole cc0_stg57_0 | 1 => Memref.whole cc0_stg57_1 | ⟨_ + 2, h⟩ => absurd h (Nat.not_lt.2 (Nat.le_add_left _ _))
abbrev sem0_57 : Fin 2 → DmaSem sig := fun | 0 => cc0_sem57_0 | 1 => cc0_sem57_1 | ⟨_ + 2, h⟩ => absurd h (Nat.not_lt.2 (Nat.le_add_left _ _))
abbrev reads0_57 : Fin grid0.rank → Bool := ![true]

abbrev stage0_58 : Fin 2 → Memref sig .tc .vmem S1x1x1024 .f32 := fun | 0 => Memref.whole cc0_stg58_0 | 1 => Memref.whole cc0_stg58_1 | ⟨_ + 2, h⟩ => absurd h (Nat.not_lt.2 (Nat.le_add_left _ _))
abbrev sem0_58 : Fin 2 → DmaSem sig := fun | 0 => cc0_sem58_0 | 1 => cc0_sem58_1 | ⟨_ + 2, h⟩ => absurd h (Nat.not_lt.2 (Nat.le_add_left _ _))
abbrev reads0_58 : Fin grid0.rank → Bool := ![true]

abbrev stage0_59 : Fin 2 → Memref sig .tc .vmem S1x1x1024 .f32 := fun | 0 => Memref.whole cc0_stg59_0 | 1 => Memref.whole cc0_stg59_1 | ⟨_ + 2, h⟩ => absurd h (Nat.not_lt.2 (Nat.le_add_left _ _))
abbrev sem0_59 : Fin 2 → DmaSem sig := fun | 0 => cc0_sem59_0 | 1 => cc0_sem59_1 | ⟨_ + 2, h⟩ => absurd h (Nat.not_lt.2 (Nat.le_add_left _ _))
abbrev reads0_59 : Fin grid0.rank → Bool := ![true]

abbrev stage0_60 : Fin 2 → Memref sig .tc .vmem S1x1x1024 .f32 := fun | 0 => Memref.whole cc0_stg60_0 | 1 => Memref.whole cc0_stg60_1 | ⟨_ + 2, h⟩ => absurd h (Nat.not_lt.2 (Nat.le_add_left _ _))
abbrev sem0_60 : Fin 2 → DmaSem sig := fun | 0 => cc0_sem60_0 | 1 => cc0_sem60_1 | ⟨_ + 2, h⟩ => absurd h (Nat.not_lt.2 (Nat.le_add_left _ _))
abbrev reads0_60 : Fin grid0.rank → Bool := ![true]

abbrev stage0_61 : Fin 2 → Memref sig .tc .vmem S1x1x1024 .f32 := fun | 0 => Memref.whole cc0_stg61_0 | 1 => Memref.whole cc0_stg61_1 | ⟨_ + 2, h⟩ => absurd h (Nat.not_lt.2 (Nat.le_add_left _ _))
abbrev sem0_61 : Fin 2 → DmaSem sig := fun | 0 => cc0_sem61_0 | 1 => cc0_sem61_1 | ⟨_ + 2, h⟩ => absurd h (Nat.not_lt.2 (Nat.le_add_left _ _))
abbrev reads0_61 : Fin grid0.rank → Bool := ![true]

abbrev stage0_62 : Fin 2 → Memref sig .tc .vmem S1x1x1024 .f32 := fun | 0 => Memref.whole cc0_stg62_0 | 1 => Memref.whole cc0_stg62_1 | ⟨_ + 2, h⟩ => absurd h (Nat.not_lt.2 (Nat.le_add_left _ _))
abbrev sem0_62 : Fin 2 → DmaSem sig := fun | 0 => cc0_sem62_0 | 1 => cc0_sem62_1 | ⟨_ + 2, h⟩ => absurd h (Nat.not_lt.2 (Nat.le_add_left _ _))
abbrev reads0_62 : Fin grid0.rank → Bool := ![true]

abbrev stage0_63 : Fin 2 → Memref sig .tc .vmem S1x1x1024 .f32 := fun | 0 => Memref.whole cc0_stg63_0 | 1 => Memref.whole cc0_stg63_1 | ⟨_ + 2, h⟩ => absurd h (Nat.not_lt.2 (Nat.le_add_left _ _))
abbrev sem0_63 : Fin 2 → DmaSem sig := fun | 0 => cc0_sem63_0 | 1 => cc0_sem63_1 | ⟨_ + 2, h⟩ => absurd h (Nat.not_lt.2 (Nat.le_add_left _ _))
abbrev reads0_63 : Fin grid0.rank → Bool := ![true]

abbrev stage0_64 : Fin 2 → Memref sig .tc .vmem S1x1x1024 .f32 := fun | 0 => Memref.whole cc0_stg64_0 | 1 => Memref.whole cc0_stg64_1 | ⟨_ + 2, h⟩ => absurd h (Nat.not_lt.2 (Nat.le_add_left _ _))
abbrev sem0_64 : Fin 2 → DmaSem sig := fun | 0 => cc0_sem64_0 | 1 => cc0_sem64_1 | ⟨_ + 2, h⟩ => absurd h (Nat.not_lt.2 (Nat.le_add_left _ _))
abbrev reads0_64 : Fin grid0.rank → Bool := ![true]

abbrev stage0_65 : Fin 2 → Memref sig .tc .vmem S1x1x1024 .f32 := fun | 0 => Memref.whole cc0_stg65_0 | 1 => Memref.whole cc0_stg65_1 | ⟨_ + 2, h⟩ => absurd h (Nat.not_lt.2 (Nat.le_add_left _ _))
abbrev sem0_65 : Fin 2 → DmaSem sig := fun | 0 => cc0_sem65_0 | 1 => cc0_sem65_1 | ⟨_ + 2, h⟩ => absurd h (Nat.not_lt.2 (Nat.le_add_left _ _))
abbrev reads0_65 : Fin grid0.rank → Bool := ![true]

abbrev stage0_66 : Fin 2 → Memref sig .tc .vmem S1x8x1024 .f32 := fun | 0 => Memref.whole cc0_stg66_0 | 1 => Memref.whole cc0_stg66_1 | ⟨_ + 2, h⟩ => absurd h (Nat.not_lt.2 (Nat.le_add_left _ _))
abbrev sem0_66 : Fin 2 → DmaSem sig := fun | 0 => cc0_sem66_0 | 1 => cc0_sem66_1 | ⟨_ + 2, h⟩ => absurd h (Nat.not_lt.2 (Nat.le_add_left _ _))
abbrev reads0_66 : Fin grid0.rank → Bool := ![true]
-- ==== ReferenceIdeal.lean ====
abbrev S16384x1024 : Shape := ⟨2, ![16384, 1024]⟩
abbrev S16384x8 : Shape := ⟨2, ![16384, 8]⟩
abbrev S65536x1024 : Shape := ⟨2, ![65536, 1024]⟩
abbrev S_ : Shape := ⟨0, ![]⟩
abbrev S16384x8x1 : Shape := ⟨3, ![16384, 8, 1]⟩
abbrev S1 : Shape := ⟨1, ![1]⟩
abbrev S1x1x1 : Shape := ⟨3, ![1, 1, 1]⟩
abbrev S16384x8x1024 : Shape := ⟨3, ![16384, 8, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x8, .i32⟩
  | .hbm, ⟨2, _⟩ => ⟨S16384x8, .f32⟩
  | .hbm, ⟨3, _⟩ => ⟨S65536x1024, .f32⟩
  | .hbm, ⟨4, _⟩ => ⟨S_, .i32⟩
  | .hbm, ⟨5, _⟩ => ⟨S16384x8, .i32⟩
  | .hbm, ⟨6, _⟩ => ⟨S16384x8, .i1⟩
  | .hbm, ⟨7, _⟩ => ⟨S_, .i32⟩
  | .hbm, ⟨8, _⟩ => ⟨S16384x8, .i32⟩
  | .hbm, ⟨9, _⟩ => ⟨S16384x8, .i32⟩
  | .hbm, ⟨10, _⟩ => ⟨S16384x8, .i32⟩
  | .hbm, ⟨11, _⟩ => ⟨S16384x8x1, .i32⟩
  | .hbm, ⟨12, _⟩ => ⟨S1, .i32⟩
  | .hbm, ⟨13, _⟩ => ⟨S_, .i32⟩
  | .hbm, ⟨14, _⟩ => ⟨S16384x8x1, .i32⟩
  | .hbm, ⟨15, _⟩ => ⟨S16384x8x1, .i1⟩
  | .hbm, ⟨16, _⟩ => ⟨S1x1x1, .i32⟩
  | .hbm, ⟨17, _⟩ => ⟨S16384x8x1, .i32⟩
  | .hbm, ⟨18, _⟩ => ⟨S16384x8x1, .i1⟩
  | .hbm, ⟨19, _⟩ => ⟨S16384x8x1, .i1⟩
  | .hbm, ⟨20, _⟩ => ⟨S_, .i1⟩
  | .hbm, ⟨21, _⟩ => ⟨S16384x8, .i1⟩
  | .hbm, ⟨22, _⟩ => ⟨S16384x8x1024, .f32⟩
  | .hbm, ⟨23, _⟩ => ⟨S16384x8x1024, .i1⟩
  | .hbm, ⟨24, _⟩ => ⟨S_, .f32⟩
  | .hbm, ⟨25, _⟩ => ⟨S16384x8x1024, .f32⟩
  | .hbm, ⟨26, _⟩ => ⟨S16384x8x1024, .f32⟩
  | .hbm, ⟨27, _⟩ => ⟨S16384x8, .f32⟩
  | .hbm, ⟨28, _⟩ => ⟨S16384x8, .f32⟩
  | .hbm, ⟨29, _⟩ => ⟨S16384x8, .f32⟩
  | .hbm, ⟨30, _⟩ => ⟨S16384x1024, .f32⟩
  | .hbm, ⟨31, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩

abbrev nD : Nat := 1
abbrev τ : Topo := Topo.v7x

variable {F : FTy → Type} [FloatOps F]
-- ==== Proof.Row.lean ====
/-
  The kernel's body, row by row: one row's arithmetic as a fold over its eight gathered rows, the program of a row,
  and the body as the eight rows' programs one after another.
-/
module

public import proofs.«01_k».proof.Proof.Gen.KernelIdeal.Frame.Runs
public import Idealize.ShloMosaic.Lib.VecWindow

@[expose] public section

set_option maxRecDepth 16384

noncomputable section

namespace Cert.Proof.Rows

open Cert.KernelIdeal Cert.KernelIdeal.Gen
open Idealize.ShloMosaic Idealize.ShloMosaic.TcCoe Idealize.SL.Sem

variable {F : FTy → Type} [FloatOps F]

/-- The coefficient of one gathered row `r` against the row `x`: the hyperbolic tangent of their inner product, times the weight. -/
def coef (x r : Vec F S1x1x1024 .f32) (w : Vec F S1x1 .f32) : F .f32 :=
  Scalar.mulf
    (Scalar.tanh (extractAt ![0, 0, 0]
      (shapeCast S1x1x1
        (multiReduction .add [1, 2] S1
          (shapeCast S1x1x1024
            (mulf (shapeCast S1x1024 x shapeCasts_S1x1x1024_S1x1024 : FVec F S1x1024 .f32) (shapeCast S1x1024 r shapeCasts_S1x1x1024_S1x1024))
            shapeCasts_S1x1024_S1x1x1024 : FVec F S1x1x1024 .f32)
          0x00000000#32 reduces_S1x1x1024_S1 (.inl rfl) rfl : FVec F S1 .f32)
        shapeCasts_S1_S1x1x1) inpos_S1x1x1_p0_0_0))
    (extractAt ![0, 0] w inpos_S1x1_p0_0)

/-- The running row `acc` with the gathered row `r` added at its coefficient. -/
def step (x : Vec F S1x1x1024 .f32) (acc : FVec F S1x1024 .f32) (r : Vec F S1x1x1024 .f32) (w : Vec F S1x1 .f32) : FVec F S1x1024 .f32 :=
  addf acc (mulf (broadcast S1x1024 (coef x r w)) (shapeCast S1x1024 r shapeCasts_S1x1x1024_S1x1024))

/-- The rectangle of row `i` of a block of eight rows lies inside the block. -/
theorem row_inb (i : Fin 8) : ∀ a, (![0, i.val, 0] : Fin 3 → ℕ) a + S1x1x1024.size a ≤ S1x8x1024.size a := by
  revert i; decide

/-- The rectangle of the weight at row `i`, column `k` lies inside the block of weights. -/
theorem weight_inb (i k : Fin 8) : ∀ a, (![i.val, k.val] : Fin 2 → ℕ) a + S1x1.size a ≤ S8x8.size a := by
  revert i k; decide

/-- The rectangle of row `i` of a block of eight rows. -/
abbrev rowRect (i : Fin 8) : Rect S1x8x1024 := Rect.unit (s := S1x8x1024) ![0, i.val, 0] S1x1x1024.size (row_inb i)
/-- The rectangle of one weight. -/
abbrev weightRect (i k : Fin 8) : Rect S8x8 := Rect.unit (s := S8x8) ![i.val, k.val] S1x1.size (weight_inb i k)
/-- The whole of a gathered row's block. -/
abbrev gatherRect : Rect S1x1x1024 := Rect.unit (s := S1x1x1024) ![0, 0, 0] S1x1x1024.size inb_S1x1x1024_S1x1x1024_0_0_0

/-- The rest of row `i`'s program when the gathered rows `ks` are still to be added to `acc`: it ends with the store of the row. -/
def rowLoop (wm : Memref sig .tc .vmem S8x8 .f32) (rm : Fin 8 → Memref sig .tc .vmem S1x1x1024 .f32)
    (om : Memref sig .tc .vmem S1x8x1024 .f32) (i : Fin 8) (x : Vec F S1x1x1024 .f32) :
    List (Fin 8) → FVec F S1x1024 .f32 → Prog (TpuEff nD τ sig (Elt F) Λ₀ .tc) PUnit → Prog (TpuEff nD τ sig (Elt F) Λ₀ .tc) PUnit
  | [], acc, rest => .op (.load om (rowRect i).toLoadRect (View.loadsAt_vmem h_S1x1x1024)) fun _ =>
      .op (.store om (rowRect i) (shapeCast S1x1x1024 acc shapeCasts_S1x1024_S1x1x1024 : FVec F S1x1x1024 .f32) Finset.univ
        (View.stores_vmem_bits_univ h_S1x1x1024 rfl) (.inl rfl)) fun _ => rest
  | k :: ks, acc, rest => .op (.load (rm k) gatherRect.toLoadRect (View.loadsAt_vmem h_S1x1x1024)) fun r =>
      .op (.load wm (weightRect i k).toLoadRect (View.loadsAt_vmem h_S1x1)) fun w =>
        rowLoop wm rm om i x ks (step x acc r w) rest

/-- The rows `is` of a block, one after another: each reads its row of the block and runs through its eight gathered rows. -/
def rows (xm : Memref sig .tc .vmem S1x8x1024 .f32) (wm : Memref sig .tc .vmem S8x8 .f32)
    (rm : Fin 8 → Fin 8 → Memref sig .tc .vmem S1x1x1024 .f32) (om : Memref sig .tc .vmem S1x8x1024 .f32) :
    List (Fin 8) → Prog (TpuEff nD τ sig (Elt F) Λ₀ .tc) PUnit
  | [] => .ret ⟨⟩
  | i :: is => .op (.load xm (rowRect i).toLoadRect (View.loadsAt_vmem h_S1x1x1024)) fun x =>
      rowLoop wm (rm i) om i x [0, 1, 2, 3, 4, 5, 6, 7] (shapeCast S1x1024 x shapeCasts_S1x1x1024_S1x1024) (rows xm wm rm om is)

/-- The body at a point is its eight rows' programs, row `i` reading the gathered rows numbered `8 i` to `8 i + 7`. -/
theorem body_eq_rows (i : grid0.Coords) (tm : Memref sig .tc .smem S131072 .i32) (htm : tm.IsWhole)
    (xm : Memref sig .tc .vmem S1x8x1024 .f32) (hxm : xm.IsWhole) (wm : Memref sig .tc .vmem S8x8 .f32) (hwm : wm.IsWhole)
    (rm : Fin 8 → Fin 8 → Memref sig .tc .vmem S1x1x1024 .f32) (hrm : ∀ j k, (rm j k).IsWhole)
    (om : Memref sig .tc .vmem S1x8x1024 .f32) (hom : om.IsWhole) :
    cc0__body (F := F) i tm htm xm hxm wm hwm
      (rm 0 0) (hrm 0 0) (rm 0 1) (hrm 0 1) (rm 0 2) (hrm 0 2) (rm 0 3) (hrm 0 3) (rm 0 4) (hrm 0 4) (rm 0 5) (hrm 0 5) (rm 0 6) (hrm 0 6) (rm 0 7) (hrm 0 7)
      (rm 1 0) (hrm 1 0) (rm 1 1) (hrm 1 1) (rm 1 2) (hrm 1 2) (rm 1 3) (hrm 1 3) (rm 1 4) (hrm 1 4) (rm 1 5) (hrm 1 5) (rm 1 6) (hrm 1 6) (rm 1 7) (hrm 1 7)
      (rm 2 0) (hrm 2 0) (rm 2 1) (hrm 2 1) (rm 2 2) (hrm 2 2) (rm 2 3) (hrm 2 3) (rm 2 4) (hrm 2 4) (rm 2 5) (hrm 2 5) (rm 2 6) (hrm 2 6) (rm 2 7) (hrm 2 7)
      (rm 3 0) (hrm 3 0) (rm 3 1) (hrm 3 1) (rm 3 2) (hrm 3 2) (rm 3 3) (hrm 3 3) (rm 3 4) (hrm 3 4) (rm 3 5) (hrm 3 5) (rm 3 6) (hrm 3 6) (rm 3 7) (hrm 3 7)
      (rm 4 0) (hrm 4 0) (rm 4 1) (hrm 4 1) (rm 4 2) (hrm 4 2) (rm 4 3) (hrm 4 3) (rm 4 4) (hrm 4 4) (rm 4 5) (hrm 4 5) (rm 4 6) (hrm 4 6) (rm 4 7) (hrm 4 7)
      (rm 5 0) (hrm 5 0) (rm 5 1) (hrm 5 1) (rm 5 2) (hrm 5 2) (rm 5 3) (hrm 5 3) (rm 5 4) (hrm 5 4) (rm 5 5) (hrm 5 5) (rm 5 6) (hrm 5 6) (rm 5 7) (hrm 5 7)
      (rm 6 0) (hrm 6 0) (rm 6 1) (hrm 6 1) (rm 6 2) (hrm 6 2) (rm 6 3) (hrm 6 3) (rm 6 4) (hrm 6 4) (rm 6 5) (hrm 6 5) (rm 6 6) (hrm 6 6) (rm 6 7) (hrm 6 7)
      (rm 7 0) (hrm 7 0) (rm 7 1) (hrm 7 1) (rm 7 2) (hrm 7 2) (rm 7 3) (hrm 7 3) (rm 7 4) (hrm 7 4) (rm 7 5) (hrm 7 5) (rm 7 6) (hrm 7 6) (rm 7 7) (hrm 7 7)
      om hom = rows xm wm rm om [0, 1, 2, 3, 4, 5, 6, 7] := by
  rw [cc0__body_eq_skeleton]
  rfl

end Cert.Proof.Rows

end
-- ==== Proof.RowRun.lean ====
/-
  Running the rows: with the block of rows, the weights and the gathered rows held at known contents, the eight rows'
  programs leave the output block holding, row by row, the fold over the gathered rows.
-/
module

public import proofs.«01_k».proof.Proof.Row

@[expose] public section

set_option maxRecDepth 16384

noncomputable section

namespace Cert.Proof.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The resource `R` lends the memref `mr`, held at the contents `X`: it gives it out and takes it back unchanged. -/
def Lends (R : sProp 𝕄) (c : Dev nD) {s : Shape} {e : EltTy} (mr : Memref sig .tc .vmem s e) (X : s.Idx → Elt F e) : Prop :=
  R ⊢ iprop(owns (c : Thread nD τ) mr fullShare X ∗ (owns (c : Thread nD τ) mr fullShare X -∗ R))

/-- What a resource lends it still lends with more beside it. -/
theorem Lends.frame {R : sProp 𝕄} {c : Dev nD} {s : Shape} {e : EltTy} {mr : Memref sig .tc .vmem s e} {X : s.Idx → Elt F e}
    (hR : Lends R c mr X) (P : sProp 𝕄) : Lends iprop(R ∗ P) c mr X := by
  unfold Lends at hR ⊢
  iintro ⟨HR, HP⟩
  ihave HR' := hR $$ HR
  icases HR' with ⟨HX, Hback⟩
  isplitl [HX]
  · iexact HX
  iintro HX
  isplitr [HP]
  · iapply Hback
    iexact HX
  · iexact HP

/-- A memref owned beside a resource is lent by the two together. -/
theorem Lends.beside (R : sProp 𝕄) (c : Dev nD) {s : Shape} {e : EltTy} (mr : Memref sig .tc .vmem s e) (X : s.Idx → Elt F e) :
    Lends iprop(R ∗ owns (c : Thread nD τ) mr fullShare X) c mr X := by
  unfold Lends
  iintro ⟨HR, HX⟩
  isplitl [HX]
  · iexact HX
  iintro HX
  isplitl [HR]
  · iexact HR
  · iexact HX

/-- A load of a lent memref reads the lent contents, and the resource is kept. -/
theorem wp_load_lent {R : sProp 𝕄} {c : Dev nD} {s : Shape} {e : EltTy} {mr : Memref sig .tc .vmem s e} {X : s.Idx → Elt F e}
    (hR : Lends R c mr X) {r : Rect s} {hl : mr.view.LoadsAt r.toLoadRect} {α : Type}
    {k : (r.shape.Idx → Elt F e) → Prog (TpuEff nD τ sig (Elt F) Λ₀ .tc) α} {Q : α → sProp 𝕄}
    (h : R ⊢ wp frame (wpE (defs₀ (F := F)) Variants.none (c : Thread nD τ) none) Set.univ (k (View.ld X r)) Q) :
    R ⊢ wp frame (wpE (defs₀ (F := F)) Variants.none (c : Thread nD τ) none) Set.univ (.op (.load mr r.toLoadRect hl) k) Q := by
  unfold Lends at hR
  refine hR.trans ?_
  unfold owns
  iintro ⟨⟨%f, %hf, Hf⟩, Hback⟩
  iapply (wp_load Variants.none (c : Thread nD τ) none Set.univ (m := mr) (r := r.toLoadRect) (S := mr.view.set) (q := fullShare) (f := f)
    (View.setOn_subset_set _ _)) $$ Hf
  iintro Hf
  rw [View.readAt_eq_ld, hf]
  iapply h
  iapply Hback
  iexists f
  isplitr
  · ipureintro; exact hf
  · iexact Hf

/-- An unmasked store over a unit-stride rectangle of an owned memref puts the payload there. -/
theorem wp_store_owned {R : sProp 𝕄} {c : Dev nD} {s : Shape} {e : EltTy} {mr : Memref sig .tc .vmem s e} {X : s.Idx → Elt F e}
    {off size : Fin s.rank → ℕ} {inb : ∀ a, off a + size a ≤ s.size a} {w : (Rect.unit off size inb).shape.Idx → Elt F e}
    {hx : (mr.access (Rect.unit off size inb)).Stores Finset.univ}
    {hm : (Finset.univ : Finset (Rect.unit off size inb).shape.Idx) = Finset.univ ∨ ∀ a, (Rect.unit off size inb).stride a = 1} {α : Type}
    {k : PUnit → Prog (TpuEff nD τ sig (Elt F) Λ₀ .tc) α} {Q : α → sProp 𝕄}
    (h : iprop(R ∗ owns (c : Thread nD τ) mr fullShare (VecWindow.put X off size w))
      ⊢ wp frame (wpE (defs₀ (F := F)) Variants.none (c : Thread nD τ) none) Set.univ (k ⟨⟩) Q) :
    iprop(R ∗ owns (c : Thread nD τ) mr fullShare X)
      ⊢ wp frame (wpE (defs₀ (F := F)) Variants.none (c : Thread nD τ) none) Set.univ (.op (.store mr (Rect.unit off size inb) w Finset.univ hx hm) k) Q := by
  iintro ⟨HR, HX⟩
  unfold owns
  icases HX with ⟨%f, %hf, Hf⟩
  iapply (wp_store Variants.none (c : Thread nD τ) none Set.univ (m := mr) (r := Rect.unit off size inb) (w := w) (Mk := Finset.univ) (S := mr.view.set) (f := f)
    ((View.setOn_subset_set _ _).trans (View.set_slice_subset _ _))) $$ Hf
  iintro Hf
  iapply h
  isplitl [HR]
  · iexact HR
  unfold owns
  iexists _
  isplitr
  rotate_left
  · iexact Hf
  · ipureintro
    rw [← hf]
    exact View.read_writes_cons_put mr.view f inb w [] rfl

/-- What row `i` of the output block becomes: the row of `x` with its eight gathered rows `r` added at their coefficients, in order. -/
def rowOut (x : Vec F S1x1x1024 .f32) (r : Fin 8 → Vec F S1x1x1024 .f32) (w : Fin 8 → Vec F S1x1 .f32) (ks : List (Fin 8))
    (acc : FVec F S1x1024 .f32) : FVec F S1x1x1024 .f32 :=
  shapeCast S1x1x1024 (ks.foldl (fun a k => step x a (r k) (w k)) acc) shapeCasts_S1x1024_S1x1x1024

/-- The rest of a row's program, run: the output block ends with the row's fold put at row `i`. -/
theorem wp_rowLoop {R : sProp 𝕄} {c : Dev nD} {wm : Memref sig .tc .vmem S8x8 .f32} {rm : Fin 8 → Memref sig .tc .vmem S1x1x1024 .f32}
    {om : Memref sig .tc .vmem S1x8x1024 .f32} {W : Vec F S8x8 .f32} {X : Fin 8 → Vec F S1x1x1024 .f32} {Y : Vec F S1x8x1024 .f32}
    (hw : Lends R c wm W) (hr : ∀ k, Lends R c (rm k) (X k)) (i : Fin 8) (x : Vec F S1x1x1024 .f32)
    {rest : Prog (TpuEff nD τ sig (Elt F) Λ₀ .tc) PUnit} {Q : PUnit → sProp 𝕄} (ks : List (Fin 8)) (acc : FVec F S1x1024 .f32)
    (h : iprop(R ∗ owns (c : Thread nD τ) om fullShare (VecWindow.put Y ![0, i.val, 0] S1x1x1024.size
        (rowOut x (fun k => View.ld (X k) gatherRect) (fun k => View.ld W (weightRect i k)) ks acc)))
      ⊢ wp frame (wpE (defs₀ (F := F)) Variants.none (c : Thread nD τ) none) Set.univ rest Q) :
    iprop(R ∗ owns (c : Thread nD τ) om fullShare Y)
      ⊢ wp frame (wpE (defs₀ (F := F)) Variants.none (c : Thread nD τ) none) Set.univ (rowLoop wm rm om i x ks acc rest) Q := by
  induction ks generalizing acc with
  | nil =>
    exact wp_load_lent (Lends.beside R c om Y) (wp_store_owned h)
  | cons k ks ih => exact wp_load_lent ((hr k).frame _) (wp_load_lent (hw.frame _) (ih _ h))

/-- The output block after the rows `is`, from the block `x`, the weights `W` and the gathered rows `X`: each row of `is` put in its place. -/
def blockAfter (x : Vec F S1x8x1024 .f32) (W : Vec F S8x8 .f32) (X : Fin 8 → Fin 8 → Vec F S1x1x1024 .f32) (is : List (Fin 8))
    (Y : Vec F S1x8x1024 .f32) : Vec F S1x8x1024 .f32 :=
  is.foldl (fun Y i => VecWindow.put Y ![0, i.val, 0] S1x1x1024.size
    (rowOut (View.ld x (rowRect i)) (fun k => View.ld (X i k) gatherRect) (fun k => View.ld W (weightRect i k)) [0, 1, 2, 3, 4, 5, 6, 7]
      (shapeCast S1x1024 (View.ld x (rowRect i)) shapeCasts_S1x1x1024_S1x1024))) Y

/-- The rows' programs, run one after another. -/
theorem wp_rows {R : sProp 𝕄} {c : Dev nD} {xm : Memref sig .tc .vmem S1x8x1024 .f32} {wm : Memref sig .tc .vmem S8x8 .f32}
    {rm : Fin 8 → Fin 8 → Memref sig .tc .vmem S1x1x1024 .f32}
    {om : Memref sig .tc .vmem S1x8x1024 .f32} {x : Vec F S1x8x1024 .f32} {W : Vec F S8x8 .f32} {X : Fin 8 → Fin 8 → Vec F S1x1x1024 .f32}
    (hx : Lends R c xm x) (hw : Lends R c wm W) (hr : ∀ i k, Lends R c (rm i k) (X i k)) (is : List (Fin 8)) (Y : Vec F S1x8x1024 .f32) :
    iprop(R ∗ owns (c : Thread nD τ) om fullShare Y)
      ⊢ wp frame (wpE (defs₀ (F := F)) Variants.none (c : Thread nD τ) none) Set.univ (rows xm wm rm om is)
          (fun _ => iprop(R ∗ owns (c : Thread nD τ) om fullShare (blockAfter x W X is Y))) := by
  induction is generalizing Y with
  | nil => exact fupd_intro
  | cons i is ih => exact wp_load_lent (hx.frame _) (wp_rowLoop hw (hr i) i _ _ _ (ih _))

end Cert.Proof.Rows

end
-- ==== Proof.Body.lean ====
/-
  The kernel's body at a grid point: from the windows' blocks, the rows it gathers and the block it leaves; and the
  body's obligation to the pipeline.
-/
module

public import proofs.«01_k».proof.Proof.RowRun

@[expose] public section

set_option maxRecDepth 16384

noncomputable section

namespace Cert.Proof.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One gathered row as the body sees it: the staging memref it lies in and what that holds. -/
structure Gathered (F : FTy → Type) where
  /-- The staging memref. -/
  mem : Memref sig .tc .vmem S1x1x1024 .f32
  /-- It is a whole buffer. -/
  whole : mem.IsWhole
  /-- What it holds when the body runs. -/
  val : Vec F S1x1x1024 .f32

/-- The sixty-four gathered rows at point `t`: the eight of row `i` of the block are the windows `2 + 8 i` to `9 + 8 i`. -/
def gathered (hO : Ok m) (c : Dev nD) (t : Fin (cfgM m hO).N) : Fin 8 → Fin 8 → Gathered F :=
  ![
    ![⟨ms0_2 m hO t, hs0_2 m hO t, iblk m hO c 2 t⟩,
      ⟨ms0_3 m hO t, hs0_3 m hO t, iblk m hO c 3 t⟩,
      ⟨ms0_4 m hO t, hs0_4 m hO t, iblk m hO c 4 t⟩,
      ⟨ms0_5 m hO t, hs0_5 m hO t, iblk m hO c 5 t⟩,
      ⟨ms0_6 m hO t, hs0_6 m hO t, iblk m hO c 6 t⟩,
      ⟨ms0_7 m hO t, hs0_7 m hO t, iblk m hO c 7 t⟩,
      ⟨ms0_8 m hO t, hs0_8 m hO t, iblk m hO c 8 t⟩,
      ⟨ms0_9 m hO t, hs0_9 m hO t, iblk m hO c 9 t⟩],
    ![⟨ms0_10 m hO t, hs0_10 m hO t, iblk m hO c 10 t⟩,
      ⟨ms0_11 m hO t, hs0_11 m hO t, iblk m hO c 11 t⟩,
      ⟨ms0_12 m hO t, hs0_12 m hO t, iblk m hO c 12 t⟩,
      ⟨ms0_13 m hO t, hs0_13 m hO t, iblk m hO c 13 t⟩,
      ⟨ms0_14 m hO t, hs0_14 m hO t, iblk m hO c 14 t⟩,
      ⟨ms0_15 m hO t, hs0_15 m hO t, iblk m hO c 15 t⟩,
      ⟨ms0_16 m hO t, hs0_16 m hO t, iblk m hO c 16 t⟩,
      ⟨ms0_17 m hO t, hs0_17 m hO t, iblk m hO c 17 t⟩],
    ![⟨ms0_18 m hO t, hs0_18 m hO t, iblk m hO c 18 t⟩,
      ⟨ms0_19 m hO t, hs0_19 m hO t, iblk m hO c 19 t⟩,
      ⟨ms0_20 m hO t, hs0_20 m hO t, iblk m hO c 20 t⟩,
      ⟨ms0_21 m hO t, hs0_21 m hO t, iblk m hO c 21 t⟩,
      ⟨ms0_22 m hO t, hs0_22 m hO t, iblk m hO c 22 t⟩,
      ⟨ms0_23 m hO t, hs0_23 m hO t, iblk m hO c 23 t⟩,
      ⟨ms0_24 m hO t, hs0_24 m hO t, iblk m hO c 24 t⟩,
      ⟨ms0_25 m hO t, hs0_25 m hO t, iblk m hO c 25 t⟩],
    ![⟨ms0_26 m hO t, hs0_26 m hO t, iblk m hO c 26 t⟩,
      ⟨ms0_27 m hO t, hs0_27 m hO t, iblk m hO c 27 t⟩,
      ⟨ms0_28 m hO t, hs0_28 m hO t, iblk m hO c 28 t⟩,
      ⟨ms0_29 m hO t, hs0_29 m hO t, iblk m hO c 29 t⟩,
      ⟨ms0_30 m hO t, hs0_30 m hO t, iblk m hO c 30 t⟩,
      ⟨ms0_31 m hO t, hs0_31 m hO t, iblk m hO c 31 t⟩,
      ⟨ms0_32 m hO t, hs0_32 m hO t, iblk m hO c 32 t⟩,
      ⟨ms0_33 m hO t, hs0_33 m hO t, iblk m hO c 33 t⟩],
    ![⟨ms0_34 m hO t, hs0_34 m hO t, iblk m hO c 34 t⟩,
      ⟨ms0_35 m hO t, hs0_35 m hO t, iblk m hO c 35 t⟩,
      ⟨ms0_36 m hO t, hs0_36 m hO t, iblk m hO c 36 t⟩,
      ⟨ms0_37 m hO t, hs0_37 m hO t, iblk m hO c 37 t⟩,
      ⟨ms0_38 m hO t, hs0_38 m hO t, iblk m hO c 38 t⟩,
      ⟨ms0_39 m hO t, hs0_39 m hO t, iblk m hO c 39 t⟩,
      ⟨ms0_40 m hO t, hs0_40 m hO t, iblk m hO c 40 t⟩,
      ⟨ms0_41 m hO t, hs0_41 m hO t, iblk m hO c 41 t⟩],
    ![⟨ms0_42 m hO t, hs0_42 m hO t, iblk m hO c 42 t⟩,
      ⟨ms0_43 m hO t, hs0_43 m hO t, iblk m hO c 43 t⟩,
      ⟨ms0_44 m hO t, hs0_44 m hO t, iblk m hO c 44 t⟩,
      ⟨ms0_45 m hO t, hs0_45 m hO t, iblk m hO c 45 t⟩,
      ⟨ms0_46 m hO t, hs0_46 m hO t, iblk m hO c 46 t⟩,
      ⟨ms0_47 m hO t, hs0_47 m hO t, iblk m hO c 47 t⟩,
      ⟨ms0_48 m hO t, hs0_48 m hO t, iblk m hO c 48 t⟩,
      ⟨ms0_49 m hO t, hs0_49 m hO t, iblk m hO c 49 t⟩],
    ![⟨ms0_50 m hO t, hs0_50 m hO t, iblk m hO c 50 t⟩,
      ⟨ms0_51 m hO t, hs0_51 m hO t, iblk m hO c 51 t⟩,
      ⟨ms0_52 m hO t, hs0_52 m hO t, iblk m hO c 52 t⟩,
      ⟨ms0_53 m hO t, hs0_53 m hO t, iblk m hO c 53 t⟩,
      ⟨ms0_54 m hO t, hs0_54 m hO t, iblk m hO c 54 t⟩,
      ⟨ms0_55 m hO t, hs0_55 m hO t, iblk m hO c 55 t⟩,
      ⟨ms0_56 m hO t, hs0_56 m hO t, iblk m hO c 56 t⟩,
      ⟨ms0_57 m hO t, hs0_57 m hO t, iblk m hO c 57 t⟩],
    ![⟨ms0_58 m hO t, hs0_58 m hO t, iblk m hO c 58 t⟩,
      ⟨ms0_59 m hO t, hs0_59 m hO t, iblk m hO c 59 t⟩,
      ⟨ms0_60 m hO t, hs0_60 m hO t, iblk m hO c 60 t⟩,
      ⟨ms0_61 m hO t, hs0_61 m hO t, iblk m hO c 61 t⟩,
      ⟨ms0_62 m hO t, hs0_62 m hO t, iblk m hO c 62 t⟩,
      ⟨ms0_63 m hO t, hs0_63 m hO t, iblk m hO c 63 t⟩,
      ⟨ms0_64 m hO t, hs0_64 m hO t, iblk m hO c 64 t⟩,
      ⟨ms0_65 m hO t, hs0_65 m hO t, iblk m hO c 65 t⟩]]

/-- The row of a block that an index names. -/
abbrev rowOf (y : S1x8x1024.Idx) : Fin 8 := y 1

/-- The index of lane `d` in a block of one row. -/
def lane (d : Fin 1024) : S1x1x1024.Idx
  | 0 => (0 : Fin 1)
  | 1 => (0 : Fin 1)
  | 2 => d

/-- What the output block holds after the body at point `t`. -/
def outBlk (hO : Ok m) (c : Dev nD) (t : Fin (cfgM m hO).N) : Vec F S1x8x1024 .f32 := fun y =>
  rowOut (View.ld (iblk m hO c 0 t : Vec F S1x8x1024 .f32) (rowRect (rowOf y))) (fun k => View.ld (gathered m hO c t (rowOf y) k).val gatherRect)
    (fun k => View.ld (iblk m hO c 1 t : Vec F S8x8 .f32) (weightRect (rowOf y) k)) [0, 1, 2, 3, 4, 5, 6, 7]
    (shapeCast S1x1024 (View.ld (iblk m hO c 0 t : Vec F S1x8x1024 .f32) (rowRect (rowOf y))) shapeCasts_S1x1x1024_S1x1024)
    (lane (y 2))

/-- A block after the rows `is`: at a row among them the row's fold, elsewhere what was there. -/
theorem blockAfter_apply (x : Vec F S1x8x1024 .f32) (W : Vec F S8x8 .f32) (X : Fin 8 → Fin 8 → Vec F S1x1x1024 .f32) (is : List (Fin 8))
    (Y : Vec F S1x8x1024 .f32) (y : S1x8x1024.Idx) :
    blockAfter x W X is Y y = if rowOf y ∈ is then
      rowOut (View.ld x (rowRect (rowOf y))) (fun k => View.ld (X (rowOf y) k) gatherRect) (fun k => View.ld W (weightRect (rowOf y) k)) [0, 1, 2, 3, 4, 5, 6, 7]
        (shapeCast S1x1024 (View.ld x (rowRect (rowOf y))) shapeCasts_S1x1x1024_S1x1024) (lane (y 2))
      else Y y := by
  induction is generalizing Y with
  | nil => rfl
  | cons i is ih =>
    have h0 : (y 0).val = 0 := by have h := (y 0).isLt; change (y 0).val < 1 at h; omega
    rw [show blockAfter x W X (i :: is) Y = blockAfter x W X is _ from rfl, ih]
    by_cases hm : rowOf y ∈ is
    · rw [if_pos hm, if_pos (List.mem_cons_of_mem _ hm)]
    rw [if_neg hm]
    show (if h : ∀ a : Fin 3, (![0, i.val, 0] : Fin 3 → ℕ) a ≤ (y a).val ∧ (y a).val < (![0, i.val, 0] : Fin 3 → ℕ) a + S1x1x1024.size a then _ else Y y) = _
    by_cases hi : rowOf y = i
    · subst hi
      rw [if_pos (List.mem_cons_self ..), dif_pos]
      · congr 1
        funext a
        apply Fin.ext
        fin_cases a
        · show (y 0).val - 0 = 0
          omega
        · show (y 1).val - (y 1).val = 0
          omega
        · show (y 2).val - 0 = (y 2).val
          omega
      · intro a
        fin_cases a
        · show 0 ≤ (y 0).val ∧ (y 0).val < 0 + 1
          omega
        · show (y 1).val ≤ (y 1).val ∧ (y 1).val < (y 1).val + 1
          omega
        · show 0 ≤ (y 2).val ∧ (y 2).val < 0 + 1024
          have := (y 2).isLt; change (y 2).val < 1024 at this; omega
    · rw [if_neg (fun h => (List.mem_cons.1 h).elim hi hm), dif_neg]
      intro h
      have h1 := h 1
      change i.val ≤ (rowOf y).val ∧ (rowOf y).val < i.val + 1 at h1
      exact hi (Fin.ext (by omega))

/-- The proof data: entry contents off the run; after each point an input's buffer at its block and the output's at `outBlk`. -/
def dats (hO : Ok m) (_ : Fin 1) (c : Dev nD) : Dat τ (Elt F) Unit ℕ (UR sig nD τ) ℕ (cfgM m hO) c where
  A w := V m c (Pipeline.arrRef spec0 w)
  after := Function.update (fun w t => iblk m hO c w t) 66 (fun t => outBlk m hO c t)
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

/-- The output's buffer after a point. -/
theorem after_out (hO : Ok m) (c : Dev nD) (t : Fin (cfgM m hO).N) : (dats m hO 0 c).after 66 t = outBlk m hO c t := rfl

/-- An input's buffer after a point is its block. -/
theorem after_in (hO : Ok m) (c : Dev nD) (w : Fin (cfgM m hO).W) (hw : w ≠ 66) (t : Fin (cfgM m hO).N) :
    (dats m hO 0 c).after w t = iblk m hO c w t := by
  have h := Function.update_of_ne
    (β := fun w : Fin (cfgM m hO).W => Fin (cfgM m hO).N → ((cfgM m hO).win w).block.Idx → Elt F ((cfgM m hO).win w).elt)
    hw (fun t => outBlk m hO c t) (fun w t => iblk m hO c w t)
  exact congrFun h t

/-- Every window but the last is an input. -/
theorem isIn (hO : Ok m) (w : Fin (cfgM m hO).W) (hw : w ≠ 66) : ((cfgM m hO).win w).isOut = false := by
  have h : ∀ w : Fin 67, w ≠ 66 → (spec0 w).isOut = false := by decide
  exact h w hw

/-- Before the body an input's buffer holds its block, whatever it held at first. -/
theorem before_in (hO : Ok m) (c : Dev nD) (w : Fin (cfgM m hO).W) (hw : w ≠ 66) (t : Fin (cfgM m hO).N) (d) :
    (dats m hO 0 c).before w t d = iblk m hO c w t := by
  exact ((dats m hO 0 c).before_in_eq_fetched w (isIn m hO w hw) (fun _ => rfl) (fun _ _ _ => rfl) (fun t => by rw [after_in m hO c w hw]; rfl) t d).trans
    (((dats m hO 0 c).cut_fetched w t d : (dats m hO 0 c).fetched w t d = (dats m hO 0 c).blockOf w t).trans rfl)

/-- Every input window's buffer, held at its block. -/
def inputs (hO : Ok m) (c : Dev nD) (t : Fin (cfgM m hO).N) : sProp 𝕄 :=
  bigSep (Finset.univ.erase (66 : Fin (cfgM m hO).W)) fun w =>
    owns (c : Thread nD τ) (((cfgM m hO).win w).stage ((cfgM m hO).slots t w)) fullShare (iblk m hO c w t)

/-- The inputs are any one of them beside the rest. -/
theorem inputs_split (hO : Ok m) (c : Dev nD) (t : Fin (cfgM m hO).N) (w : Fin (cfgM m hO).W) (hw : w ≠ 66) :
    inputs m hO c t = iprop(owns (c : Thread nD τ) (((cfgM m hO).win w).stage ((cfgM m hO).slots t w)) fullShare (iblk m hO c w t)
      ∗ bigSep ((Finset.univ.erase (66 : Fin (cfgM m hO).W)).erase w) fun w =>
          owns (c : Thread nD τ) (((cfgM m hO).win w).stage ((cfgM m hO).slots t w)) fullShare (iblk m hO c w t)) :=
  bigSep_erase (Finset.mem_erase.2 ⟨hw, Finset.mem_univ w⟩)

/-- The inputs together lend each of them. -/
theorem lends_inputs (hO : Ok m) (c : Dev nD) (t : Fin (cfgM m hO).N) (w : Fin (cfgM m hO).W) (hw : w ≠ 66) (P : sProp 𝕄) :
    iprop(inputs m hO c t ∗ P) ⊢ iprop(owns (c : Thread nD τ) (((cfgM m hO).win w).stage ((cfgM m hO).slots t w)) fullShare (iblk m hO c w t)
      ∗ (owns (c : Thread nD τ) (((cfgM m hO).win w).stage ((cfgM m hO).slots t w)) fullShare (iblk m hO c w t) -∗ (inputs m hO c t ∗ P))) := by
  rw [inputs_split m hO c t w hw]
  iintro ⟨⟨Hw, Hrest⟩, HP⟩
  isplitl [Hw]
  · iexact Hw
  iintro Hw
  isplitr [HP]
  · isplitl [Hw]
    · iexact Hw
    · iexact Hrest
  · iexact HP

/-- The window that stages the `k`-th gathered row of row `i`. -/
abbrev winOf (i k : Fin 8) : Fin 67 := ⟨2 + 8 * i.val + k.val, by omega⟩

set_option maxHeartbeats 4000000 in
/-- Among the inputs each gathered row is lent at what it holds. -/
theorem lends_gathered (hO : Ok m) (c : Dev nD) (t : Fin (cfgM m hO).N) (P : sProp 𝕄) (i k : Fin 8) :
    Lends iprop(inputs m hO c t ∗ P) c (gathered m hO c t i k).mem (gathered m hO c t i k).val := by
  have h : ∀ i k, winOf i k ≠ 66 := by decide
  have key := lends_inputs m hO c t (winOf i k) (h i k) P
  fin_cases i <;> fin_cases k <;> exact key

end Cert.Proof.Rows

end
-- ==== Proof.Run.lean ====
/-
  The body's obligation to the pipeline, the run of the whole program, and its frame: it terminates, leaves its
  arguments as they were, and leaves every semaphore at zero.
-/
module

public import proofs.«01_k».proof.Proof.Body
public import Idealize.ShloMosaic.Lib.Claim

@[expose] public section

set_option maxRecDepth 16384

noncomputable section

namespace Cert.Proof.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body finds: every window's buffer, the inputs' at their blocks. -/
theorem found (hO : Ok m) (c : Dev nD) (t : Fin (cfgM m hO).N) :
    (bigSep Finset.univ fun w : Fin (cfgM m hO).W =>
      iprop(∃ d, owns (c : Thread nD τ) (((cfgM m hO).win w).stage ((cfgM m hO).slots t w)) fullShare ((dats m hO 0 c).before w t d)))
    ⊢ iprop((∃ Y : Vec F S1x8x1024 .f32, owns (c : Thread nD τ) (ms0_66 m hO t) fullShare Y) ∗ inputs m hO c t) := by
  rw [show (bigSep Finset.univ fun w : Fin (cfgM m hO).W =>
      iprop(∃ d, owns (c : Thread nD τ) (((cfgM m hO).win w).stage ((cfgM m hO).slots t w)) fullShare ((dats m hO 0 c).before w t d)))
      = iprop((∃ d, owns (c : Thread nD τ) (ms0_66 m hO t) fullShare ((dats m hO 0 c).before 66 t d))
        ∗ bigSep (Finset.univ.erase (66 : Fin (cfgM m hO).W)) fun w =>
          iprop(∃ d, owns (c : Thread nD τ) (((cfgM m hO).win w).stage ((cfgM m hO).slots t w)) fullShare ((dats m hO 0 c).before w t d)))
    from bigSep_univ_split (66 : Fin (cfgM m hO).W)]
  refine BIClass.sep_mono ?_ ?_
  · iintro ⟨%d, H⟩
    iexists _
    iexact H
  · have h : ∀ w : Fin (cfgM m hO).W, w ≠ 66 →
        (iprop(∃ d, owns (c : Thread nD τ) (((cfgM m hO).win w).stage ((cfgM m hO).slots t w)) fullShare ((dats m hO 0 c).before w t d)) : sProp 𝕄)
        ⊢ owns (c : Thread nD τ) (((cfgM m hO).win w).stage ((cfgM m hO).slots t w)) fullShare (iblk m hO c w t) := by
      intro w hw
      iintro ⟨%d, H⟩
      rw [before_in m hO c w hw]
      iexact H
    exact bigSep_mono fun w hw => h w (Finset.ne_of_mem_erase hw)

/-- What the body leaves: the inputs' buffers at their blocks, the output's at `outBlk`. -/
theorem left (hO : Ok m) (c : Dev nD) (t : Fin (cfgM m hO).N) :
    iprop(owns (c : Thread nD τ) (ms0_66 m hO t) fullShare (outBlk m hO c t) ∗ inputs m hO c t)
    ⊢ (bigSep Finset.univ fun w : Fin (cfgM m hO).W =>
      owns (c : Thread nD τ) (((cfgM m hO).win w).stage ((cfgM m hO).slots t w)) fullShare ((dats m hO 0 c).after w t)) := by
  rw [show (bigSep Finset.univ fun w : Fin (cfgM m hO).W =>
      owns (c : Thread nD τ) (((cfgM m hO).win w).stage ((cfgM m hO).slots t w)) fullShare ((dats m hO 0 c).after w t))
      = iprop(owns (c : Thread nD τ) (ms0_66 m hO t) fullShare (outBlk m hO c t)
        ∗ bigSep (Finset.univ.erase (66 : Fin (cfgM m hO).W)) fun w =>
          owns (c : Thread nD τ) (((cfgM m hO).win w).stage ((cfgM m hO).slots t w)) fullShare ((dats m hO 0 c).after w t))
    from bigSep_univ_split (66 : Fin (cfgM m hO).W)]
  refine BIClass.sep_mono .rfl (bigSep_mono fun w hw => ?_)
  rw [after_in m hO c w (Finset.ne_of_mem_erase hw)]
  exact fun _ h => h

/-- The body at a point: from every window's buffer as it finds it to every buffer as it leaves it, beside anything it does not touch. -/
theorem sound_body (hO : Ok m) (c : Dev nD) (t : Fin (cfgM m hO).N) (P : sProp 𝕄) :
    iprop(P ∗ bigSep Finset.univ fun w : Fin (cfgM m hO).W =>
      iprop(∃ d, owns (c : Thread nD τ) (((cfgM m hO).win w).stage ((cfgM m hO).slots t w)) fullShare ((dats m hO 0 c).before w t d)))
    ⊢ wp frame (wpE (defs₀ (F := F)) Variants.none (c : Thread nD τ) none) Set.univ (bodyAt0 (adm m hO) t) fun _ =>
      iprop(P ∗ bigSep Finset.univ fun w : Fin (cfgM m hO).W =>
        owns (c : Thread nD τ) (((cfgM m hO).win w).stage ((cfgM m hO).slots t w)) fullShare ((dats m hO 0 c).after w t)) := by
  have hbody : bodyAt0 (adm m hO) t = rows (F := F) (ms0_0 m hO t) (ms0_1 m hO t) (fun i k => (gathered m hO c t i k).mem) (ms0_66 m hO t)
      [0, 1, 2, 3, 4, 5, 6, 7] :=
    body_eq_rows (grid0.coords t) _ (Memref.isWhole_whole _) _ (hs0_0 m hO t) _ (hs0_1 m hO t) _ (fun i k => (gathered m hO c t i k).whole)
      _ (hs0_66 m hO t)
  rw [hbody]
  refine (BIClass.sep_mono .rfl (found m hO c t)).trans ?_
  have h0 : (0 : Fin 67) ≠ 66 := by decide
  have h1 : (1 : Fin 67) ≠ 66 := by decide
  have hall : ∀ i : Fin 8, i ∈ ([0, 1, 2, 3, 4, 5, 6, 7] : List (Fin 8)) := by decide
  have hrun := fun Y => wp_rows (om := ms0_66 m hO t) (lends_inputs m hO c t (0 : Fin 67) h0 P) (lends_inputs m hO c t (1 : Fin 67) h1 P)
    (lends_gathered m hO c t P) [0, 1, 2, 3, 4, 5, 6, 7] Y
  have hout : ∀ Y, blockAfter (iblk m hO c 0 t) (iblk m hO c 1 t) (fun i k => (gathered m hO c t i k).val) [0, 1, 2, 3, 4, 5, 6, 7] Y = outBlk m hO c t :=
    fun Y => funext fun y => (blockAfter_apply _ _ _ _ Y y).trans (if_pos (hall _))
  have hpost : iprop((inputs m hO c t ∗ P) ∗ owns (c : Thread nD τ) (ms0_66 m hO t) fullShare (outBlk m hO c t))
      ⊢ iprop(P ∗ bigSep Finset.univ fun w : Fin (cfgM m hO).W =>
        owns (c : Thread nD τ) (((cfgM m hO).win w).stage ((cfgM m hO).slots t w)) fullShare ((dats m hO 0 c).after w t)) := by
    iintro ⟨⟨Hin, HP⟩, HY⟩
    isplitl [HP]
    · iexact HP
    iapply (left m hO c t)
    isplitl [HY]
    · iexact HY
    · iexact Hin
  have hwhole : ∀ Y, iprop((inputs m hO c t ∗ P) ∗ owns (c : Thread nD τ) (ms0_66 m hO t) fullShare Y)
      ⊢ wp frame (wpE (defs₀ (F := F)) Variants.none (c : Thread nD τ) none) Set.univ
          (rows (F := F) (ms0_0 m hO t) (ms0_1 m hO t) (fun i k => (gathered m hO c t i k).mem) (ms0_66 m hO t) [0, 1, 2, 3, 4, 5, 6, 7]) fun _ =>
        iprop(P ∗ bigSep Finset.univ fun w : Fin (cfgM m hO).W =>
          owns (c : Thread nD τ) (((cfgM m hO).win w).stage ((cfgM m hO).slots t w)) fullShare ((dats m hO 0 c).after w t)) := fun Y =>
    (hrun Y).trans (wp_mono _ _ _ fun _ => ((BIClass.sep_mono .rfl (Entails.of_eq (congrArg _ (hout Y)))).trans hpost))
  iintro ⟨HP, ⟨%Y, HY⟩, Hin⟩
  iapply (hwhole Y)
  isplitr [HY]
  · isplitl [Hin]
    · iexact Hin
    · iexact HP
  · iexact HY

/-- The body table's row at a point is the body there. -/
theorem body_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body's obligation to the pipeline, at every point. -/
theorem body_obligation (hO : Ok m) (c : Dev nD) :
    BodyObligation (dats (F := F) m hO 0 c) (defs₀ (F := F)) Variants.none () Set.univ := fun t => by
  rw [body_row m hO]
  have h := sound_body m hO c t iprop((dats m hO 0 c).Φ t.castSucc ∗ (dats m hO 0 c).owesAt () t.castSucc)
  refine (sep_assoc.2.trans h).trans (wp_mono _ _ _ fun _ => sep_assoc.1)

set_option backward.isDefEq.respectTransparency.types false in
set_option maxHeartbeats 4000000 in
/-- The run: every execution ends with the windowed arrays at what the pipeline computes from the proof data, every other
    buffer as the host lines after the region leave it, and every semaphore at zero. -/
theorem run_quiescent (hO : Ok m) :
    θ_run defs (onTc (τ := τ) (main (F := F))) (s₀ m ρ) (fun r =>
      (Pipeline.FramePost (Pipeline.pin pcfgs fun _ => adm m hO) (dats m hO) 0
        (Pipeline.afterTail pcfgs (fun _ => adm m hO) (dats m hO) 0 (V0 m) [hostOps1])) r ∧ r.2.sem = fun _ => 0) :=
  Pipeline.θ_run_frameP_around_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- The run without the semaphores. -/
theorem run (hO : Ok m) :
    θ_run defs (onTc (τ := τ) (main (F := F))) (s₀ m ρ)
      (Pipeline.FramePost (Pipeline.pin pcfgs fun _ => adm m hO) (dats m hO) 0
        (Pipeline.afterTail pcfgs (fun _ => adm m hO) (dats m hO) 0 (V0 m) [hostOps1])) :=
  (θ_run defs _ _).mono (fun _ h => h.1) (run_quiescent m ρ hO)

/-- The frame: the program terminates, its arguments end unchanged and every semaphore at zero. -/
theorem kernel_frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ hO (dats m hO) (A_eq m hO) (run m ρ hO)) ((θ_run defs _ _).mono (fun _ h => h.2) (run_quiescent m ρ hO))

end Cert.Proof.Rows

end
-- ==== Proof.InPool.lean ====
/-
  The precondition, read back: where `in_pool` holds, every word of the index array is below 65536.
-/
module

public import proofs.«01_k».proof.Proof.Gen.Pre_in_pool
public import Idealize.ShloMosaic.Lib.ReduceAll
public import Idealize.ShloMosaic.Lib.StableHlo.Predicate

@[expose] public section

namespace Cert.Proof

open Idealize.ShloMosaic

/-- A 32-bit word that is at least 0 and less than 65536, both read signed, is less than 65536 read unsigned. -/
theorem word_lt_of_signed {w : BitVec 32} (h0 : IntOp.cmpi .sge w 0#32 = 1#1) (h1 : IntOp.cmpi .slt w 65536#32 = 1#1) :
    w.toNat < 65536 := by
  simp only [IntOp.cmpi, StableHlo.Predicate.ofBool_eq_one_iff, BitVec.sle, BitVec.slt, decide_eq_true_eq] at h0 h1
  have e0 : (0#32 : BitVec 32).toInt = 0 := by decide
  have e1 : (65536#32 : BitVec 32).toInt = 65536 := by decide
  rw [e0] at h0
  rw [e1] at h1
  have hw := w.isLt
  rw [BitVec.toInt_eq_toNat_cond] at h0 h1
  split at h0 <;> omega

/-- Where the predicate `in_pool` is 1, every word of its index array is less than 65536. -/
theorem word_lt_of_in_pool {F : FTy → Type} [FloatOps F] [Cert.Pre_in_pool.Facts]
    (x : FVec F Cert.Pre_in_pool.S16384x1024 .f32) (ids : IVec Cert.Pre_in_pool.S16384x8 32)
    (w : FVec F Cert.Pre_in_pool.S16384x8 .f32) (tb : FVec F Cert.Pre_in_pool.S65536x1024 .f32)
    (h : Cert.Pre_in_pool.fn x ids w tb = fun _ => 1#1) (i : Cert.Pre_in_pool.S16384x8.Idx) : (ids i).toNat < 65536 := by
  haveI : Subsingleton Cert.Pre_in_pool.S_.Idx := ⟨fun a b => funext fun k => k.elim0⟩
  have e := Host.reduce_andi_all _ _ _ _ (fun k => k.elim0) (congrFun h fun k => k.elim0) i
  exact word_lt_of_signed (IntOp.andi_eq_one.1 e).1 (IntOp.andi_eq_one.1 e).2

end Cert.Proof

end
-- ==== Proof.RowBlock.lean ====
/-
  One row of the table of rows as a block: where it lies.
-/
module

public import Idealize.ShloMosaic.Lib.Pipeline

@[expose] public section

namespace Cert.Proof

open Idealize.ShloMosaic

/-- The block of one row, at a row number below 65536, lies inside the table of 65536 rows and ends on a whole word. -/
theorem row_inside {n : Nat} (hn : n < 65536) :
    ∃ h : (∀ a : Fin 3, ((![n, 0, 0] : Fin 3 → Nat) a + 1) * (⟨3, ![1, 1, 1024]⟩ : Shape).size a ≤ (⟨3, ![65536, 1, 1024]⟩ : Shape).size a),
      EltTy.bits .f32 = 32 ∨
        (Rect.block (s := ⟨3, ![65536, 1, 1024]⟩) (⟨3, ![1, 1, 1024]⟩ : Shape).size ![n, 0, 0] h).WholeWords (EltTy.packing .f32) := by
  refine ⟨fun a => ?_, .inl rfl⟩
  match a with
  | 0 => show (n + 1) * 1 ≤ 65536; omega
  | 1 => show (0 + 1) * 1 ≤ 1; omega
  | 2 => show (0 + 1) * 1024 ≤ 1024; omega

end Cert.Proof

end
-- ==== Proof.Table.lean ====
/-
  The index table as the region of `KernelIdeal` finds it, and the side condition that its row windows put on it.
-/
module

public import proofs.«01_k».proof.Defs
public import proofs.«01_k».proof.Proof.Gen.KernelIdeal.Frame.Runs
public import proofs.«01_k».proof.Proof.InPool
public import proofs.«01_k».proof.Proof.RowBlock
public import Idealize.ShloMosaic.Lib.Pipeline.ValueKit

@[expose] public section

set_option maxRecDepth 16384

namespace Cert.Proof.KernelIdeal

open Cert.KernelIdeal Cert.KernelIdeal.Gen
open Idealize.ShloMosaic Idealize.ShloMosaic.TcCoe

variable {F : FTy → Type} [FloatOps F]

/-- The table is the index array read row-major as one long vector. -/
theorem tbl_eq (m : (ℓ : Loc nD τ sig) → Buf (Elt F) ℓ) :
    tbl m 0 = shapeCast S131072 (m (((0 : Dev nD) : Thread nD τ).loc main_arg1)) shapeCasts_S16384x8_S131072 := by
  show StableHlo.after (List.flatten [hostOps0]) (fun b => m (0, b)) (Proc.devRef .tc main_v0) = _
  simp only [hostOps0, List.flatten_cons, List.flatten_nil, List.append_nil, StableHlo.after_cons, StableHlo.after_nil]
  rfl

/-- Under the precondition every word of the table is less than 65536. -/
theorem tbl_lt [Cert.Pre_in_pool.Facts] (m : (ℓ : Loc nD τ sig) → Buf (Elt F) ℓ) {x w tb}
    (h : Cert.Pre_in_pool.fn (F := F) x (m (((0 : Dev nD) : Thread nD τ).loc main_arg1)) w tb = fun _ => 1#1) (j : S131072.Idx) :
    BitVec.toNat (tbl m 0 j) < 65536 := by
  rw [tbl_eq m]
  exact word_lt_of_in_pool _ _ _ _ h _

/-- Under the precondition every row window's block, at every grid point, lies inside the table of rows. -/
theorem ok_of_pre [Cert.Pre_in_pool.Facts] (m : (ℓ : Loc nD τ sig) → Buf (Elt F) ℓ) {x w tb}
    (h : Cert.Pre_in_pool.fn (F := F) x (m (((0 : Dev nD) : Thread nD τ).loc main_arg1)) w tb = fun _ => 1#1) : Ok (F := F) m := by
  unfold Ok ok0
  and_intros
  all_goals exact fun i => row_inside (tbl_lt m h _)

end Cert.Proof.KernelIdeal

end
-- ==== Proof.Frames.lean ====
/-
  The frames: the kernel at bit patterns and at real numbers, and the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_pool
public import proofs.«01_k».proof.Proof.Run
public import proofs.«01_k».proof.Proof.Table
public import Idealize.ShloMosaic.Lib.Tactic.ProgEq

@[expose] public section

set_option maxRecDepth 16384

noncomputable section

namespace Cert.Proof

open Idealize.ShloMosaic Idealize.ShloMosaic.TcCoe Idealize.SL.Sem
open scoped Idealize.ShloMosaic.ProgEq

/-- The kernel at real numbers runs to its end, leaves its arguments as they were and every semaphore at zero. -/
theorem frame_kernelIdeal : Cert.quiescent_KernelIdeal := fun m ρ h =>
  Rows.kernel_frame m ρ (KernelIdeal.ok_of_pre m (h 0))

/-- The kernel's frame at bit patterns, in the names of the program read at real numbers (the two
    programs have the same text). -/
def WordsFrame : Prop :=
  ∀ (m : (ℓ : Loc Cert.KernelIdeal.nD Cert.KernelIdeal.τ Cert.KernelIdeal.sig) → Buf (Elt Bits) ℓ) (g : Dev Cert.KernelIdeal.nD → PrngReg),
    (∀ c : Dev Cert.KernelIdeal.nD, Cert.Pre_in_pool.fn (F := Bits) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) = fun _ => 1#1) →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The frame at bit patterns holds: the run was proved for either reading of the elements. -/
theorem wordsFrame : WordsFrame := fun m ρ h =>
  Rows.kernel_frame m ρ (KernelIdeal.ok_of_pre m (h 0))

/-- The two namings of the frame at bit patterns state the same. -/
theorem wordsFrame_eq : WordsFrame = Cert.quiescent_Kernel := by
  sl_kernel_rfl

/-- The kernel at bit patterns runs to its end, leaves its arguments as they were and every semaphore at zero. -/
theorem frame_kernel : Cert.quiescent_Kernel := wordsFrame_eq.mp wordsFrame

/-- The reference runs to its end, leaves its arguments as they were and every semaphore at zero: it declares none. -/
theorem frame_reference : Cert.quiescent_ReferenceIdeal := fun m ρ _ => by
  refine θ_run_mono (Cert.ReferenceIdeal.Value.run (F := Ideal) m ρ) ?_
  exact fun r h => ⟨fun c => (h c).2, sem_eq_zero_of_no_sems (by decide) r.2⟩

end Cert.Proof

end
-- ==== Proof.Spec.lean ====
/-
  The function both programs compute, over plain coordinates and real numbers.
-/
module

public import proofs.«01_k».proof.Proof.Gen.KernelIdeal
public import Idealize.ShloMosaic.Lib.Pipeline.ValueKit

@[expose] public section

noncomputable section

namespace Cert.Proof

open Cert.KernelIdeal
open Idealize.ShloMosaic

/-- The coefficient of a gathered row `r` against the row `x` with weight `w`: the hyperbolic tangent of their inner
    product, times the weight. -/
def coefR (x r : Fin 1024 → EReal) (w : EReal) : EReal :=
  Scalar.tanh (F := Ideal) (φ := .f32) (∑ d : Fin 1024, x d * r d) * w

/-- A row with its eight gathered rows added, each at its coefficient: lane `d`. -/
def rowR (x : Fin 1024 → EReal) (r : Fin 8 → Fin 1024 → EReal) (w : Fin 8 → EReal) (d : Fin 1024) : EReal :=
  (∑ k : Fin 8, coefR x (r k) (w k) * r k d) + x d

/-- The row of the table that entry `(b, k)` of the index array names. -/
def rowNo (ids : S16384x8.Idx → BitVec 32) (b : Fin 16384) (k : Fin 8) : Fin 65536 :=
  ⟨(ids (ix2 b k)).toNat % 65536, Nat.mod_lt _ (by decide)⟩

/-- The result at row `b`, lane `d`, of the rows `x`, the indices `ids`, the weights `w` and the table `tb`. -/
def specAt (x : S16384x1024.Idx → EReal) (ids : S16384x8.Idx → BitVec 32) (w : S16384x8.Idx → EReal) (tb : S65536x1024.Idx → EReal)
    (b : Fin 16384) (d : Fin 1024) : EReal :=
  rowR (fun d => x (ix2 b d)) (fun k d => tb (ix2 (rowNo ids b k) d)) (fun k => w (ix2 b k)) d

end Cert.Proof

end
-- ==== Proof.RowValue.lean ====
/-
  One row's arithmetic at real numbers, read at a lane: the row plus its eight gathered rows, each times its coefficient.
-/
module

public import proofs.«01_k».proof.Proof.RowRun
public import proofs.«01_k».proof.Proof.Spec
public import Idealize.ShloMosaic.Lib.Pipeline.ValueKit

@[expose] public section

set_option maxRecDepth 16384

noncomputable section

namespace Cert.Proof.Rows

open Cert.KernelIdeal Cert.KernelIdeal.Gen
open Idealize.ShloMosaic Idealize.ShloMosaic.TcCoe Idealize.SL.Sem

/-- The body's coefficient is the plain one. -/
theorem coef_apply (x r : Vec Ideal S1x1x1024 .f32) (w : Vec Ideal S1x1 .f32) :
    coef x r w = coefR (fun d => x (ix3 0 0 d)) (fun d => r (ix3 0 0 d)) (w (ix2 0 0)) := by
  pointwise [coef, coefR]
  rw [Fin.sum_univ_one]

/-- One step at a lane. -/
theorem step_apply (x : Vec Ideal S1x1x1024 .f32) (acc : FVec Ideal S1x1024 .f32) (r : Vec Ideal S1x1x1024 .f32) (w : Vec Ideal S1x1 .f32) (d : Fin 1024) :
    step x acc r w (ix2 0 d)
      = acc (ix2 0 d) + coefR (fun d => x (ix3 0 0 d)) (fun d => r (ix3 0 0 d)) (w (ix2 0 0)) * r (ix3 0 0 d) := by
  rw [← coef_apply]
  pointwise [step]

/-- The steps over a list of gathered rows, at a lane: the running row plus the sum of the terms. -/
theorem fold_apply (x : Vec Ideal S1x1x1024 .f32) (r : Fin 8 → Vec Ideal S1x1x1024 .f32) (w : Fin 8 → Vec Ideal S1x1 .f32) (d : Fin 1024) :
    ∀ (ks : List (Fin 8)) (acc : FVec Ideal S1x1024 .f32), ks.foldl (fun a k => step x a (r k) (w k)) acc (ix2 0 d)
      = acc (ix2 0 d) + (ks.map fun k => coefR (fun d => x (ix3 0 0 d)) (fun d => r k (ix3 0 0 d)) (w k (ix2 0 0)) * r k (ix3 0 0 d)).sum
  | [], acc => by simp
  | k :: ks, acc => by
    rw [List.foldl_cons, fold_apply x r w d ks, step_apply, List.map_cons, List.sum_cons, add_assoc]

/-- A row's result at a lane. -/
theorem rowOut_apply (x : Vec Ideal S1x1x1024 .f32) (r : Fin 8 → Vec Ideal S1x1x1024 .f32) (w : Fin 8 → Vec Ideal S1x1 .f32) (d : Fin 1024) :
    rowOut x r w [0, 1, 2, 3, 4, 5, 6, 7] (shapeCast S1x1024 x shapeCasts_S1x1x1024_S1x1024) (ix3 0 0 d)
      = rowR (fun d => x (ix3 0 0 d)) (fun k d => r k (ix3 0 0 d)) (fun k => w k (ix2 0 0)) d := by
  have h : rowOut x r w [0, 1, 2, 3, 4, 5, 6, 7] (shapeCast S1x1024 x shapeCasts_S1x1x1024_S1x1024) (ix3 0 0 d)
      = ([0, 1, 2, 3, 4, 5, 6, 7] : List (Fin 8)).foldl (fun a k => step x a (r k) (w k)) (shapeCast S1x1024 x shapeCasts_S1x1x1024_S1x1024) (ix2 0 d) := by
    unfold rowOut
    generalize ([0, 1, 2, 3, 4, 5, 6, 7] : List (Fin 8)).foldl (fun a k => step x a (r k) (w k)) (shapeCast S1x1024 x shapeCasts_S1x1x1024_S1x1024) = Z
    pointwise
  have hx : (shapeCast S1x1024 x shapeCasts_S1x1x1024_S1x1024 : FVec Ideal S1x1024 .f32) (ix2 0 d) = x (ix3 0 0 d) := by
    pointwise
  rw [h, fold_apply, hx, add_comm, rowR, Fin.sum_univ_eight]
  simp only [List.map_cons, List.map_nil, List.sum_cons, List.sum_nil, add_zero, add_assoc]

end Cert.Proof.Rows
end
-- ==== Proof.Blocks.lean ====
/-
  Sixteen thousand rows as blocks of eight rows, and back.
-/
module

public import proofs.«01_k».proof.Proof.Gen.KernelIdeal
public import Idealize.ShloMosaic.Lib.Pipeline.ValueKit

@[expose] public section

noncomputable section

namespace Cert.Proof.Rows

open Cert.KernelIdeal
open Idealize.ShloMosaic

/-- Row `i` of block `t` is row `8 t + i` of the whole. -/
theorem blocks_apply {α : Type} (X : S16384x1024.Idx → α) (h : S16384x1024.ShapeCasts S2048x8x1024) (t : Fin 2048) (i : Fin 8) (d : Fin 1024) :
    shapeCast S2048x8x1024 X h (ix3 t i d) = X (ix2 ⟨8 * t.val + i.val, by omega⟩ d) := by
  refine shapeCast_apply _ _ _ _ ?_
  rw [Shape.rowMajor_val_two, Shape.rowMajor_val_three]
  show (8 * t.val + i.val) * 1024 + d.val = (t.val * 8 + i.val) * 1024 + d.val
  omega

/-- Row `8 t + i` of the whole is row `i` of block `t`. -/
theorem unblocks_apply {α : Type} (Y : S2048x8x1024.Idx → α) (h : S2048x8x1024.ShapeCasts S16384x1024) (b : Fin 16384) (d : Fin 1024) :
    shapeCast S16384x1024 Y h (ix2 b d) = Y (ix3 ⟨b.val / 8, by omega⟩ ⟨b.val % 8, by omega⟩ d) := by
  refine shapeCast_apply _ _ _ _ ?_
  rw [Shape.rowMajor_val_two, Shape.rowMajor_val_three]
  show (b.val / 8 * 8 + b.val % 8) * 1024 + d.val = b.val * 1024 + d.val
  omega

end Cert.Proof.Rows

end
-- ==== Proof.Reads.lean ====
/-
  What a grid point's blocks hold, element by element, in terms of the argument arrays.
-/
module

public import proofs.«01_k».proof.Proof.Body
public import proofs.«01_k».proof.Proof.Table
public import proofs.«01_k».proof.Proof.Spec
public import proofs.«01_k».proof.Proof.Blocks
public import Idealize.ShloMosaic.Lib.Pipeline.ValueKit

@[expose] public section

set_option maxRecDepth 16384

noncomputable section

namespace Cert.Proof.Rows

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)

/-- The grid has 2048 points. -/
theorem pt_lt (hO : Ok m) (t : Fin (cfgM m hO).N) : t.val < 2048 := t.isLt

/-- The row of the arrays that is row `i` of point `t`'s block. -/
def rowAt (hO : Ok m) (t : Fin (cfgM m hO).N) (i : Fin 8) : Fin 16384 :=
  ⟨8 * t.val + i.val, by have := pt_lt m hO t; omega⟩

/-- A point's one coordinate is its number. -/
theorem coords_val (hO : Ok m) (t : Fin (cfgM m hO).N) : ((cfgM m hO).grid.coords t 0).val = t.val := by
  refine (Pipeline.Grid.coords_val (G := grid0) t 0 (S := 1) (B := 2048) (by decide) rfl).trans ?_
  rw [Nat.div_one]
  exact Nat.mod_eq_of_lt (pt_lt m hO t)

/-- A point's number as a word reads back as itself. -/
theorem word_of_pt (hO : Ok m) (t : Fin (cfgM m hO).N) :
    (BitVec.ofNat 32 ((cfgM m hO).grid.coords t 0).val).toNat = t.val := by
  have := pt_lt m hO t
  rw [coords_val, BitVec.toNat_ofNat]
  omega

/-- The rows as the launch finds them: the argument in blocks of eight rows. -/
theorem rows_eq (c : Dev nD) : (V m c main_v1 : Vec F S2048x8x1024 .f32)
    = shapeCast S2048x8x1024 (m ((c : Thread nD τ).loc main_arg0)) shapeCasts_S16384x1024_S2048x8x1024 := by
  show StableHlo.after (List.flatten [hostOps0]) (fun b => m (c, b)) (Proc.devRef .tc main_v1) = _
  simp only [hostOps0, List.flatten_cons, List.flatten_nil, List.append_nil, StableHlo.after_cons, StableHlo.after_nil]
  rfl

/-- The rows as the launch finds them, at an element. -/
theorem rows_apply (c : Dev nD) (t : Fin 2048) (i : Fin 8) (d : Fin 1024) : (V m c main_v1 : Vec F S2048x8x1024 .f32) (ix3 t i d)
    = (m ((c : Thread nD τ).loc main_arg0) : Vec F S16384x1024 .f32) (ix2 ⟨8 * t.val + i.val, by omega⟩ d) := by
  rw [rows_eq]
  exact blocks_apply _ _ t i d

/-- The table of rows as the launch finds it: the argument with a unit axis put in. -/
theorem table_eq (c : Dev nD) : (V m c main_v2 : Vec F S65536x1x1024 .f32)
    = shapeCast S65536x1x1024 (m ((c : Thread nD τ).loc main_arg3)) shapeCasts_S65536x1024_S65536x1x1024 := by
  show StableHlo.after (List.flatten [hostOps0]) (fun b => m (c, b)) (Proc.devRef .tc main_v2) = _
  simp only [hostOps0, List.flatten_cons, List.flatten_nil, List.append_nil, StableHlo.after_cons, StableHlo.after_nil]
  rfl

/-- The block of rows at a point, at an element. -/
theorem read_x (hO : Ok m) (c : Dev nD) (t : Fin (cfgM m hO).N) (i : Fin 8) (d : Fin 1024) :
    (iblk m hO c 0 t : Vec F S1x8x1024 .f32) (ix3 0 i d)
      = (m ((c : Thread nD τ).loc main_arg0) : Vec F S16384x1024 .f32) (ix2 (rowAt m hO t i) d) := by
  have h : (iblk m hO c 0 t : Vec F S1x8x1024 .f32) (ix3 0 i d)
      = (V m c main_v1 : Vec F S2048x8x1024 .f32) (ix3 ⟨t.val, pt_lt m hO t⟩ i d) := by
    refine congrArg (V m c main_v1 : Vec F S2048x8x1024 .f32) (funext fun a => Fin.ext ?_)
    refine (Pipeline.Window.rect_emb_val ((cfgM m hO).win 0) t _ a).trans ?_
    fin_cases a
    · show (BitVec.ofNat 32 ((cfgM m hO).grid.coords t 0).val).toNat * 1 + 0 = t.val
      rw [word_of_pt]; omega
    · show 0 * 8 + i.val = i.val
      omega
    · show 0 * 1024 + d.val = d.val
      omega
  exact h.trans (rows_apply m c ⟨t.val, pt_lt m hO t⟩ i d)

/-- The block of weights at a point, at an element. -/
theorem read_w (hO : Ok m) (c : Dev nD) (t : Fin (cfgM m hO).N) (i k : Fin 8) :
    (iblk m hO c 1 t : Vec F S8x8 .f32) (ix2 i k)
      = (m ((c : Thread nD τ).loc main_arg2) : Vec F S16384x8 .f32) (ix2 (rowAt m hO t i) k) := by
  have h : (iblk m hO c 1 t : Vec F S8x8 .f32) (ix2 i k) = (V m c main_arg2 : Vec F S16384x8 .f32) (ix2 (rowAt m hO t i) k) := by
    refine congrArg (V m c main_arg2 : Vec F S16384x8 .f32) (funext fun a => Fin.ext ?_)
    refine (Pipeline.Window.rect_emb_val ((cfgM m hO).win 1) t _ a).trans ?_
    fin_cases a
    · show (BitVec.ofNat 32 ((cfgM m hO).grid.coords t 0).val).toNat * 8 + i.val = 8 * t.val + i.val
      rw [word_of_pt]; omega
    · show 0 * 8 + k.val = k.val
      omega
  rw [h, V_main_arg2]

/-- The table's word that names gathered row `k` of row `i` of point `t`'s block. -/
theorem word_at (hO : Ok m) (t : Fin (cfgM m hO).N) (i k : Fin 8) (w : BitVec 32) (hw : w = BitVec.ofNat 32 (8 * i.val + k.val))
    (hin : ∀ a, (![(Scalar.indexCast (Scalar.addi (Scalar.muli (BitVec.ofNat 32 ((cfgM m hO).grid.coords t 0).val) 64#32) w) : Index).toNat] : Fin 1 → ℕ) a
      + S1.size a ≤ S131072.size a) :
    (tbl m).at 0 (Rect.unit (s := S131072)
        ![(Scalar.indexCast (Scalar.addi (Scalar.muli (BitVec.ofNat 32 ((cfgM m hO).grid.coords t 0).val) 64#32) w) : Index).toNat] S1.size hin) numel1_S1
      = (m (((0 : Dev nD) : Thread nD τ).loc main_arg1) : Vec F S16384x8 .i32) (ix2 (rowAt m hO t i) k) := by
  subst hw
  have ht := pt_lt m hO t
  have hi := i.isLt
  have hk := k.isLt
  have hv : (Scalar.indexCast (Scalar.addi (Scalar.muli (BitVec.ofNat 32 ((cfgM m hO).grid.coords t 0).val) 64#32)
      (BitVec.ofNat 32 (8 * i.val + k.val))) : Index).toNat = 64 * t.val + (8 * i.val + k.val) := by
    rw [coords_val]
    simp only [Scalar.indexCast, Scalar.addi, Scalar.muli, IntOp.addi, IntOp.muli]
    rw [BitVec.toNat_add, BitVec.toNat_mul, BitVec.toNat_ofNat, BitVec.toNat_ofNat]
    simp only [BitVec.toNat_ofNat]
    omega
  show (tbl m 0 : Vec F S131072 .i32) _ = _
  have he : (Rect.unit (s := S131072) ![(Scalar.indexCast (Scalar.addi (Scalar.muli (BitVec.ofNat 32 ((cfgM m hO).grid.coords t 0).val) 64#32)
      (BitVec.ofNat 32 (8 * i.val + k.val))) : Index).toNat] S1.size hin).emb (Shape.Idx.first (numel1_S1.symm ▸ Nat.one_pos))
        = ix1 ⟨64 * t.val + (8 * i.val + k.val), by omega⟩ := by
    funext a
    fin_cases a
    exact Fin.ext hv
  refine (congrArg (tbl m 0 : Vec F S131072 .i32) he).trans ?_
  rw [KernelIdeal.tbl_eq]
  pointwise
  have h0 : (64 * t.val + (8 * i.val + k.val)) / 8 = 8 * t.val + i.val := by omega
  have h1 : (64 * t.val + (8 * i.val + k.val)) % 8 = k.val := by omega
  simp only [h0, h1]
  rfl

/-- The table of rows as the launch finds it, at an element. -/
theorem table_apply (c : Dev nD) (n : Fin 65536) (d : Fin 1024) :
    (V m c main_v2 : Vec F S65536x1x1024 .f32) (ix3 n 0 d) = (m ((c : Thread nD τ).loc main_arg3) : Vec F S65536x1024 .f32) (ix2 n d) := by
  rw [table_eq]
  pointwise

/-- An index into the table of rows, by its coordinates. -/
theorem tableIdx (f : S65536x1x1024.Idx) (n : Fin 65536) (d : Fin 1024) (h0 : (f 0).val = n.val) (h2 : (f 2).val = d.val) : f = ix3 n 0 d := by
  idx_vars f
  obtain rfl := Fin.ext h0
  obtain rfl := Fin.ext h2
  exact congrArg (fun a : Fin 1 => ix3 f0 a f2) (Subsingleton.elim _ _)

/-- The place of element `d` of a block of one row at block index `n`. -/
theorem place_row (n N : ℕ) (h : n = N) : n * 1 + 1 * 0 = N := by omega

/-- The place of a lane in a row. -/
theorem place_lane (d : ℕ) : 0 * 1024 + 1 * d = d := by omega

set_option maxHeartbeats 4000000 in
/-- A gathered row's block at a lane. -/
theorem read_gathered (hO : Ok m) (c : Dev nD) (t : Fin (cfgM m hO).N)
    (hlt : ∀ j, BitVec.toNat ((m (((0 : Dev nD) : Thread nD τ).loc main_arg1) : Vec F S16384x8 .i32) j) < 65536) (i k : Fin 8) (d : Fin 1024) :
    (gathered m hO c t i k).val (ix3 0 0 d)
      = (V m c main_v2 : Vec F S65536x1x1024 .f32) (ix3 (rowNo (m (((0 : Dev nD) : Thread nD τ).loc main_arg1)) (rowAt m hO t i) k) 0 d) := by
  have key := fun w hw hin => (congrArg BitVec.toNat (word_at m hO t i k w hw hin)).trans
    (show _ = (rowNo (m (((0 : Dev nD) : Thread nD τ).loc main_arg1)) (rowAt m hO t i) k).val from (Nat.mod_eq_of_lt (hlt _)).symm)
  generalize rowNo (m (((0 : Dev nD) : Thread nD τ).loc main_arg1)) (rowAt m hO t i) k = n at key ⊢
  revert key
  fin_cases i, k
  all_goals exact fun key => congrArg (V m c main_v2 : Vec F S65536x1x1024 .f32) (tableIdx _ _ _ (place_row _ _ (key _ (by rfl) _)) (place_lane _))

end Cert.Proof.Rows

end
-- ==== Proof.BlockValue.lean ====
/-
  What the output block holds after a grid point, element by element.
-/
module

public import proofs.«01_k».proof.Proof.RowValue
public import proofs.«01_k».proof.Proof.Reads

@[expose] public section

set_option maxRecDepth 16384

noncomputable section

namespace Cert.Proof.Rows

open Cert.KernelIdeal Cert.KernelIdeal.Gen
open Idealize.ShloMosaic Idealize.ShloMosaic.TcCoe Idealize.SL.Sem

/-- A lane of a block of one row, by its coordinates. -/
theorem lane_eq (d : Fin 1024) : lane d = ix3 0 0 d := by
  funext a
  fin_cases a <;> rfl

/-- Row `i` of a block, at a lane. -/
theorem ld_row {X : Vec Ideal S1x8x1024 .f32} (i : Fin 8) (d : Fin 1024) : View.ld X (rowRect i) (ix3 0 0 d) = X (ix3 0 i d) := by
  refine congrArg X (funext fun a => Fin.ext ?_)
  fin_cases a
  · rfl
  · show i.val + 1 * 0 = i.val
    omega
  · show 0 + 1 * d.val = d.val
    omega

/-- A weight of a block. -/
theorem ld_weight {W : Vec Ideal S8x8 .f32} (i k : Fin 8) : View.ld W (weightRect i k) (ix2 0 0) = W (ix2 i k) := by
  refine congrArg W (funext fun a => Fin.ext ?_)
  fin_cases a
  · show i.val + 1 * 0 = i.val
    omega
  · show k.val + 1 * 0 = k.val
    omega

/-- A gathered row's block is read whole. -/
theorem ld_gathered {X : Vec Ideal S1x1x1024 .f32} (d : Fin 1024) : View.ld X gatherRect (ix3 0 0 d) = X (ix3 0 0 d) := by
  refine congrArg X (funext fun a => Fin.ext ?_)
  fin_cases a
  · rfl
  · rfl
  · show 0 + 1 * d.val = d.val
    omega

variable (m : (ℓ : Loc nD τ sig) → Buf (Elt Ideal) ℓ)

/-- The result that the run is to leave, as a function of the argument arrays as launched. -/
def specOf (c : Dev nD) : Fin 16384 → Fin 1024 → EReal :=
  specAt (m ((c : Thread nD τ).loc main_arg0)) (m (((0 : Dev nD) : Thread nD τ).loc main_arg1)) (m ((c : Thread nD τ).loc main_arg2))
    (m ((c : Thread nD τ).loc main_arg3))

/-- The output block after point `t`: its row `i` is row `8 t + i` of the result. -/
theorem outBlk_apply (hO : Ok m) (c : Dev nD) (t : Fin (cfgM m hO).N)
    (hlt : ∀ j, BitVec.toNat ((m (((0 : Dev nD) : Thread nD τ).loc main_arg1) : Vec Ideal S16384x8 .i32) j) < 65536) (i : Fin 8) (d : Fin 1024) :
    outBlk m hO c t (ix3 0 i d) = specOf m c (rowAt m hO t i) d := by
  refine (congrArg (rowOut (View.ld (iblk m hO c 0 t : Vec Ideal S1x8x1024 .f32) (rowRect i)) (fun k => View.ld (gathered m hO c t i k).val gatherRect)
    (fun k => View.ld (iblk m hO c 1 t : Vec Ideal S8x8 .f32) (weightRect i k)) [0, 1, 2, 3, 4, 5, 6, 7]
    (shapeCast S1x1024 (View.ld (iblk m hO c 0 t : Vec Ideal S1x8x1024 .f32) (rowRect i)) shapeCasts_S1x1x1024_S1x1024)) (lane_eq d)).trans
    ((rowOut_apply _ _ _ d).trans ?_)
  refine congr (congr (congr (congrArg rowR (funext fun d => ?_)) (funext fun k => funext fun d => ?_)) (funext fun k => ?_)) rfl
  · exact (ld_row _ _).trans (read_x m hO c t i d)
  · exact (ld_gathered _).trans ((read_gathered m hO c t hlt i k d).trans (table_apply m c _ d))
  · exact (ld_weight _ _).trans (read_w m hO c t i k)

end Cert.Proof.Rows

end
-- ==== Proof.KernelValue.lean ====
/-
  What the kernel leaves in its result: the output array after the run, reshaped.
-/
module

public import proofs.«01_k».proof.Proof.BlockValue
public import proofs.«01_k».proof.Proof.Run
public import Idealize.ShloMosaic.Lib.Pipeline.Covers

@[expose] public section

set_option maxRecDepth 16384

noncomputable section

namespace Cert.Proof.Rows

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result in blocks of eight rows. -/
def specBlocks (c : Dev nD) : Vec Ideal S2048x8x1024 .f32 := fun j =>
  specOf m c ⟨8 * (j 0 : Fin 2048).val + (j 1 : Fin 8).val, by
    have h0 : (j 0 : Fin 2048).val < 2048 := (j 0).isLt
    have h1 : (j 1 : Fin 8).val < 8 := (j 1).isLt
    omega⟩ (j 2)

/-- The output's blocks fill its array: block `β` is written at point `β`. -/
theorem out_covers (hO : Ok m) : ((cfgM m hO).win 66).Covers := by
  refine ((cfgM m hO).win 66).covers_of_indexMap_surj rfl (by decide : ∀ a, 0 < S1x8x1024.size a) fun β => ?_
  have hb : ∀ (a : Fin 3), ((cfgM m hO).win 66).nblk a = (![2048, 1, 1] : Fin 3 → ℕ) a := by
    have h : ∀ a : Fin 3, (S2048x8x1024.size a + S1x8x1024.size a - 1) / S1x8x1024.size a = (![2048, 1, 1] : Fin 3 → ℕ) a := by decide
    exact h
  have h0 : (β (0 : Fin 3)).val < 2048 := lt_of_lt_of_eq (β (0 : Fin 3)).isLt (hb 0)
  have h1 : (β (1 : Fin 3)).val < 1 := lt_of_lt_of_eq (β (1 : Fin 3)).isLt (hb 1)
  have h2 : (β (2 : Fin 3)).val < 1 := lt_of_lt_of_eq (β (2 : Fin 3)).isLt (hb 2)
  refine ⟨fun a => ⟨(β (0 : Fin 3)).val, by obtain rfl : a = (0 : Fin 1) := Subsingleton.elim (α := Fin 1) _ _; exact h0⟩, fun a => ?_⟩
  fin_cases a
  · show (BitVec.ofNat 32 (β (0 : Fin 3)).val).toNat = (β (0 : Fin 3)).val
    rw [BitVec.toNat_ofNat]
    omega
  · exact (Nat.lt_one_iff.mp h1).symm
  · exact (Nat.lt_one_iff.mp h2).symm

/-- An element of point `t`'s output block lies in the array at row `i` of block `t`. -/
theorem out_place (hO : Ok m) (t : Fin (cfgM m hO).N) (i : Fin 8) (d : Fin 1024) :
    ((((cfgM m hO).win 66).blk t).view.emb (ix3 0 i d : S1x8x1024.Idx) : S2048x8x1024.Idx) = ix3 ⟨t.val, pt_lt m hO t⟩ i d := by
  refine funext fun a => Fin.ext ?_
  refine (Pipeline.Window.rect_emb_val ((cfgM m hO).win 66) t _ a).trans ?_
  fin_cases a
  · show (BitVec.ofNat 32 ((cfgM m hO).grid.coords t 0).val).toNat * 1 + 0 = t.val
    rw [word_of_pt]; omega
  · show 0 * 8 + i.val = i.val
    omega
  · show 0 * 1024 + d.val = d.val
    omega

/-- The output array after the run. -/
theorem out_array (hO : Ok m) (c : Dev nD)
    (hlt : ∀ j, BitVec.toNat ((m (((0 : Dev nD) : Thread nD τ).loc main_arg1) : Vec Ideal S16384x8 .i32) j) < 65536) :
    (dats m hO 0 c).arrAt 66 (cfgM m hO).N = (specBlocks m c : Vec Ideal S2048x8x1024 .f32) := by
  refine Pipeline.Dat.arrAt_eq_of_covers (dats m hO 0 c) 66 (specBlocks m c) (out_covers m hO) fun t _ y => ?_
  have key : ∀ y : S1x8x1024.Idx, outBlk m hO c t y = specBlocks m c (((((cfgM m hO).win 66).blk t).view.emb y : S2048x8x1024.Idx)) := by
    intro y
    have hy : y = ix3 0 (y 1) (y 2) := by
      funext a
      fin_cases a
      · exact Subsingleton.elim (α := Fin 1) _ _
      · rfl
      · rfl
    rw [hy]
    exact (outBlk_apply m hO c t hlt (y 1) (y 2)).trans (congrArg (specBlocks m c) (out_place m hO t (y 1) (y 2))).symm
  exact key y

/-- The result array after the operations that follow the region: the blocks' rows one after another. -/
theorem tail_value (hO : Ok m) (c : Dev nD)
    (hlt : ∀ j, BitVec.toNat ((m (((0 : Dev nD) : Thread nD τ).loc main_arg1) : Vec Ideal S16384x8 .i32) j) < 65536) :
    (Pipeline.afterTail pcfgs (fun _ => adm m hO) (dats m hO) 0 (V0 m) [hostOps1] c main_v4 : Vec Ideal S16384x1024 .f32)
      = shapeCast S16384x1024 (specBlocks m c) shapeCasts_S2048x8x1024_S16384x1024 := by
  have hw : Pipeline.withArrays spec0 c (V0 m c) (fun w => (dats m hO 0 c).arrAt w (cfgM m hO).N) (Proc.devRef .tc main_v3)
      = (specBlocks m c : Vec Ideal S2048x8x1024 .f32) :=
    (Pipeline.withArrays_arr_shared spec0 c (V0 m c) (fun w => (dats m hO 0 c).arrAt w (cfgM m hO).N)
      ((dats m hO 0 c).arrAt_sharedIn sharedIn0 (V0 m c) (A_eq m hO c) _) 66).trans (out_array m hO c hlt)
  rw [← hw]
  show StableHlo.after (List.flatten [hostOps1]) _ (Proc.devRef .tc main_v4) = _
  simp only [hostOps1, List.flatten_cons, List.flatten_nil, List.append_nil, StableHlo.after_cons, StableHlo.after_nil]
  rfl

/-- The result array after the run, as a function of the argument arrays. -/
def result (c : Dev nD) : Vec Ideal S16384x1024 .f32 := shapeCast S16384x1024 (specBlocks m c) shapeCasts_S2048x8x1024_S16384x1024

/-- The result at an element is the common function. -/
theorem result_apply (c : Dev nD) (b : Fin 16384) (d : Fin 1024) : result m c (ix2 b d) = specOf m c b d := by
  unfold result
  rw [unblocks_apply]
  have h : 8 * (b.val / 8) + b.val % 8 = b.val := Nat.div_add_mod _ _
  exact congrArg (fun b => specOf m c b d) (Fin.ext h)

/-- The kernel's run leaves the result there, and its arguments as they were. -/
theorem kernel_run (hO : Ok m)
    (hlt : ∀ j, BitVec.toNat ((m (((0 : Dev nD) : Thread nD τ).loc main_arg1) : Vec Ideal S16384x8 .i32) j) < 65536) :
    θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v4 (by decide : main_v4 ∈ Pipeline.restRefs sig spec0)).trans (tail_value m hO c hlt), h.2.1 c⟩)
    (θ_run_and (run m ρ hO) (kernel_frame m ρ hO))

end Cert.Proof.Rows

end
-- ==== Proof.RefTake.lean ====
/-
  The reference's gather of rows: under the range precondition it takes, for every entry of the index array, the row of
  the table that the entry names.
-/
module

public import proofs.«01_k».proof.Proof.Spec
public import proofs.«01_k».proof.Proof.Gen.ReferenceIdeal
public import Idealize.ShloMosaic.Lib.Pipeline.ValueKit
public import Idealize.ShloMosaic.Lib.ReduceAll
public import Idealize.ShloMosaic.Lib.Affine

@[expose] public section

set_option maxRecDepth 16384

noncomputable section

namespace Cert.Proof.Ref

open Cert.ReferenceIdeal Cert.ReferenceIdeal.Gen
open Idealize.ShloMosaic

/-- The indices as the reference uses them: a negative one counts from the table's end. -/
def wrapped (ids : IVec S16384x8 32) : IVec S16384x8 32 :=
  select (cmpi .slt ids (broadcastInDim S16384x8 ![] bcast_S_S16384x8 (constantI S_ 32 0#32)))
    (addi ids (broadcastInDim S16384x8 ![] bcast_S_S16384x8 (constantI S_ 32 65536#32))) ids

/-- The same with a unit axis put in last. -/
def starts (ids : IVec S16384x8 32) : IVec S16384x8x1 32 :=
  broadcastInDim S16384x8x1 ![0, 1] bcast_S16384x8_S16384x8x1_0_1 (wrapped ids)

/-- Where every index lies inside the table. -/
def inside (ids : IVec S16384x8 32) : IVec S16384x8 1 :=
  Host.reduce IntOp.andi
    (andi (cmpi .sge (starts ids) (broadcastInDim S16384x8x1 ![] bcast_S_S16384x8x1 (constantI S_ 32 0#32)))
      (cmpi .sle (starts ids) (broadcastInDim S16384x8x1 ![0, 1, 2] bcast_S1x1x1_S16384x8x1_0_1_2
        (broadcastInDim S1x1x1 ![2] bcast_S1_S1x1x1_2 (constantI S1 32 65535#32)))))
    (constantI S_ 1 1#1) reducesTo_S16384x8x1_S16384x8_d2 h_S_

/-- The gathered rows, where an index outside the table would give the not-a-number word. -/
def taken (ids : IVec S16384x8 32) (tb : FVec Ideal S65536x1024 .f32) : FVec Ideal S16384x8x1024 .f32 :=
  select (broadcastInDim S16384x8x1024 ![0, 1] bcast_S16384x8_S16384x8x1024_0_1 (inside ids))
    (Host.gather gather_S65536x1024_S16384x8x1_S16384x8x1024_2_0_n_n_0_2_11024 tb (starts ids))
    (broadcastInDim S16384x8x1024 ![] bcast_S_S16384x8x1024 (constant S_ .f32 0x7FC00000#32))

/-- A word below 65536 is not negative as a signed number. -/
theorem word_slt (w : BitVec 32) (h : w.toNat < 65536) : IntOp.cmpi .slt w 0#32 = 0#1 := by
  have hi : w.toInt = w.toNat := by rw [BitVec.toInt_eq_toNat_cond]; split <;> omega
  have e0 : (0#32 : BitVec 32).toInt = 0 := by decide
  have hd : BitVec.slt w 0#32 = false := by
    simp only [BitVec.slt, decide_eq_false_iff_not, hi, e0]; omega
  show BitVec.ofBool (BitVec.slt w 0#32) = 0#1
  rw [hd]; rfl

/-- A word below 65536 is at least zero as a signed number. -/
theorem word_sge (w : BitVec 32) (h : w.toNat < 65536) : IntOp.cmpi .sge w 0#32 = 1#1 := by
  have hi : w.toInt = w.toNat := by rw [BitVec.toInt_eq_toNat_cond]; split <;> omega
  have e0 : (0#32 : BitVec 32).toInt = 0 := by decide
  have hd : BitVec.sle 0#32 w = true := by
    simp only [BitVec.sle, decide_eq_true_eq, hi, e0]; omega
  show BitVec.ofBool (BitVec.sle 0#32 w) = 1#1
  rw [hd]; rfl

/-- A word below 65536 is at most 65535 as a signed number. -/
theorem word_sle (w : BitVec 32) (h : w.toNat < 65536) : IntOp.cmpi .sle w 65535#32 = 1#1 := by
  have hi : w.toInt = w.toNat := by rw [BitVec.toInt_eq_toNat_cond]; split <;> omega
  have e0 : (65535#32 : BitVec 32).toInt = 65535 := by decide
  have hd : BitVec.sle w 65535#32 = true := by
    simp only [BitVec.sle, decide_eq_true_eq, hi, e0]; omega
  show BitVec.ofBool (BitVec.sle w 65535#32) = 1#1
  rw [hd]; rfl

/-- Indices in range are used as they are. -/
theorem wrapped_apply (ids : IVec S16384x8 32) (hlt : ∀ j, (ids j).toNat < 65536) (b : Fin 16384) (k : Fin 8) :
    wrapped ids (ix2 b k) = ids (ix2 b k) := by
  pointwise [wrapped]
  rw [word_slt _ (hlt _)]
  rfl

/-- The start indices at an element. -/
theorem starts_apply (ids : IVec S16384x8 32) (hlt : ∀ j, (ids j).toNat < 65536) (b : Fin 16384) (k : Fin 8) :
    starts ids (ix3 b k 0) = ids (ix2 b k) := by
  rw [← wrapped_apply ids hlt]
  pointwise [starts]

/-- Indices in range all lie inside the table. -/
theorem inside_apply (ids : IVec S16384x8 32) (hlt : ∀ j, (ids j).toNat < 65536) (b : Fin 16384) (k : Fin 8) :
    inside ids (ix2 b k) = 1#1 := by
  pointwise [inside]
  have h : ∀ x : Fin 1, starts ids (ix3 b k x) = ids (ix2 b k) := fun x => by
    obtain rfl : x = 0 := Subsingleton.elim _ _
    exact starts_apply ids hlt b k
  simp only [h, word_sge _ (hlt _), word_sle _ (hlt _)]
  rfl

/-- The gather at an element: the row that the index names, at the same lane. -/
theorem gather_apply (ids : IVec S16384x8 32) (hlt : ∀ j, (ids j).toNat < 65536) (tb : FVec Ideal S65536x1024 .f32)
    (b : Fin 16384) (k : Fin 8) (d : Fin 1024) :
    Host.gather gather_S65536x1024_S16384x8x1_S16384x8x1024_2_0_n_n_0_2_11024 tb (starts ids) (ix3 b k d) = tb (ix2 (rowNo ids b k) d) := by
  generalize hG : gather_S65536x1024_S16384x8x1_S16384x8x1024_2_0_n_n_0_2_11024 = G
  have hw : (starts ids (ix3 b k 0)).toInt.toNat = (ids (ix2 b k)).toNat := by
    rw [starts_apply ids hlt, BitVec.toInt_eq_toNat_cond]
    have := hlt (ix2 b k)
    split <;> omega
  have hn : (ids (ix2 b k)).toNat % 65536 = (ids (ix2 b k)).toNat := Nat.mod_eq_of_lt (hlt _)
  have hb : ∀ a, G.batchCoord (ix3 b k d) a = 0 := fun a => G.batchCoord_eq_zero _ _ (by subst hG; exact List.not_mem_nil)
  unfold Host.gather
  refine congrArg tb (funext fun a => Fin.ext ?_)
  show G.start (ix3 b k d) (starts ids) a + G.batchCoord (ix3 b k d) a + G.offCoord (ix3 b k d) a = _
  rw [hb, Nat.add_zero]
  subst hG
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    refine (dif_pos (List.mem_singleton.mpr rfl : (0 : Fin 2) ∈ ([0] : List (Fin 2)))).trans ?_
    have hsi : ∀ p, GatherDims.siIdx gather_S65536x1024_S16384x8x1_S16384x8x1024_2_0_n_n_0_2_11024 (ix3 b k d) ⟨0, p⟩ = ix3 b k 0 := by
      intro p
      funext q
      refine Fin.ext ?_
      match q with
      | ⟨0, _⟩ => rfl
      | ⟨1, _⟩ => rfl
      | ⟨2, _⟩ => rfl
    have hv : min (starts ids (ix3 b k 0)).toInt.toNat (65536 - 1) = (ids (ix2 b k)).toNat % 65536 := by
      rw [hw, hn]
      have := hlt (ix2 b k)
      omega
    exact (congrArg (fun q => min (starts ids q).toInt.toNat (65536 - 1)) (hsi _)).trans hv
  · unfold GatherDims.start
    rw [dif_neg (by intro h; exact absurd (List.mem_singleton.mp h) (by decide)), Nat.zero_add]
    rfl

/-- The gathered rows at an element. -/
theorem taken_apply (ids : IVec S16384x8 32) (hlt : ∀ j, (ids j).toNat < 65536) (tb : FVec Ideal S65536x1024 .f32)
    (b : Fin 16384) (k : Fin 8) (d : Fin 1024) : taken ids tb (ix3 b k d) = tb (ix2 (rowNo ids b k) d) := by
  rw [← gather_apply ids hlt tb b k d]
  pointwise [taken]
  rw [inside_apply ids hlt]
  rfl

end Cert.Proof.Ref
end
-- ==== Proof.RefValue.lean ====
/-
  What the reference computes, element by element.
-/
module

public import proofs.«01_k».proof.Proof.RefTake
public import proofs.«01_k».proof.Proof.Gen.ReferenceIdeal.Run

@[expose] public section

set_option maxRecDepth 16384

noncomputable section

namespace Cert.Proof.Ref

open Cert.ReferenceIdeal Cert.ReferenceIdeal.Gen
open Idealize.ShloMosaic Idealize.ShloMosaic.TcCoe Idealize.SL.Sem

/-- The reference's result of its four arguments, the gather of rows named. -/
def refOut (x : FVec Ideal S16384x1024 .f32) (ids : IVec S16384x8 32) (w : FVec Ideal S16384x8 .f32) (tb : FVec Ideal S65536x1024 .f32) :
    FVec Ideal S16384x1024 .f32 :=
  addf (Host.dotGeneral dot_S16384x8_S16384x8x1024_S16384x1024_1_1_n_2_0_0 none
    (mulf (Host.tanh (Host.dotGeneral dot_S16384x1024_S16384x8x1024_S16384x8_1_2_n_1_0_0 none x (taken ids tb))) w) (taken ids tb)) x

/-- The reference's result at an element is the common function. -/
theorem refOut_apply (x : FVec Ideal S16384x1024 .f32) (ids : IVec S16384x8 32) (w : FVec Ideal S16384x8 .f32) (tb : FVec Ideal S65536x1024 .f32)
    (hlt : ∀ j, (ids j).toNat < 65536) (b : Fin 16384) (d : Fin 1024) : refOut x ids w tb (ix2 b d) = specAt x ids w tb b d := by
  have ht := taken_apply ids hlt tb
  unfold refOut
  generalize taken ids tb = T at ht ⊢
  pointwise
  simp only [ht]
  pointwise [specAt, rowR, coefR]
  rfl

/-- The reference's run leaves its result there, and its arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = refOut (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run (F := Ideal) m ρ

end Cert.Proof.Ref

end
-- ==== Proof.Equation.lean ====
/-
  The equation: under the range precondition the kernel and the reference leave the same result.
-/
module

public import proofs.«01_k».proof.Defs
public import proofs.«01_k».proof.Proof.Gen.Kernel
public import proofs.«01_k».proof.Proof.Gen.Pre_in_pool
public import proofs.«01_k».proof.Proof.InPool
public import proofs.«01_k».proof.Proof.KernelValue
public import proofs.«01_k».proof.Proof.RefValue

@[expose] public section

set_option maxRecDepth 16384

noncomputable section

namespace Cert.Proof

open Idealize.ShloMosaic Idealize.ShloMosaic.TcCoe Idealize.SL.Sem

/-- From arguments that agree the reference's result is the kernel's. -/
theorem results_agree (m : (ℓ : Loc Cert.KernelIdeal.nD Cert.KernelIdeal.τ Cert.KernelIdeal.sig) → Buf (Elt Ideal) ℓ)
    (hlt : ∀ j, BitVec.toNat ((m (((0 : Dev Cert.KernelIdeal.nD) : Thread Cert.KernelIdeal.nD Cert.KernelIdeal.τ).loc Cert.KernelIdeal.main_arg1)
      : Vec Ideal Cert.KernelIdeal.S16384x8 .i32) j) < 65536) (c : Dev Cert.KernelIdeal.nD) :
    Ref.refOut (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)) = Rows.result m c := by
  obtain rfl : c = 0 := Subsingleton.elim _ _
  funext j
  have hj : j = ix2 (j 0) (j 1) := by
    funext a
    fin_cases a <;> rfl
  rw [hj]
  exact (Ref.refOut_apply _ _ _ _ hlt (j 0) (j 1)).trans (Rows.result_apply m 0 (j 0) (j 1)).symm

/-- At real numbers the kernel and the reference, run from arguments that agree and whose indices are in range, end with
    the same result and their arguments as they were. -/
theorem algebraic : Cert.algebraic_KernelIdeal_ReferenceIdeal := by
  intro m g m' g' hpre hagree
  have hlt := word_lt_of_in_pool _ _ _ _ (hpre 0)
  refine ⟨fun c => Rows.result m c, Rows.kernel_run m g (KernelIdeal.ok_of_pre m (hpre 0)) hlt, θ_run_mono (Ref.ref_run m' g') fun r h c => ⟨(h c).1.trans ?_, (h c).2⟩⟩
  obtain ⟨e0, e1, e2, e3⟩ := hagree c
  have e := results_agree m hlt c
  rw [← e0, ← e1, ← e2, ← e3] at e
  exact e

end Cert.Proof

end
-- ==== Proof.lean ====
/-
  The certificate's claim, put together: the frames (Proof/Frames) and the equation at real numbers (Proof/Equation).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_pool
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate: the three frames, the reference's frame under the range precondition, and the
    equation of the kernel and the reference at real numbers. -/
theorem claim : Cert.Claim :=
  ⟨Cert.Kernel.Gen.facts, Cert.KernelIdeal.Gen.facts, Cert.ReferenceIdeal.Gen.facts, Cert.Pre_in_pool.Gen.facts,
    frame_kernel, frame_kernelIdeal, frame_reference, fun m g _ => frame_reference m g trivial, trivial, algebraic⟩

end Cert.Proof

end
